-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ternary_weights [hPre_ternary_weights : Cert.Pre_ternary_weights.Facts] (m : (ℓ : Loc Cert.KernelIdeal.nD Cert.KernelIdeal.τ Cert.KernelIdeal.sig) → Buf (Elt Ideal) ℓ) : Prop :=
  ∀ c : Dev Cert.KernelIdeal.nD,
    (Cert.Pre_ternary_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_ternary_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_ternary_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ternary_weights [hPre_ternary_weights : Cert.Pre_ternary_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ternary_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_ternary_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_ternary_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_ternary_weights [hKernelIdeal : Cert.KernelIdeal.Facts] [hPre_ternary_weights : Cert.Pre_ternary_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ternary_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_ternary_weights [hReferenceIdeal : Cert.ReferenceIdeal.Facts] [hPre_ternary_weights : Cert.Pre_ternary_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ternary_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_ternary_weights [hKernelIdeal : Cert.KernelIdeal.Facts] [hReferenceIdeal : Cert.ReferenceIdeal.Facts] [hPre_ternary_weights : Cert.Pre_ternary_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ternary_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_v6_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_ternary_weights : Cert.Pre_ternary_weights.Facts),
    quiescent_Kernel (hKernel := hKernel)
    ∧ quiescent_KernelIdeal (hKernelIdeal := hKernelIdeal)
    ∧ quiescent_KernelIdeal_pre_ternary_weights (hKernelIdeal := hKernelIdeal) (hPre_ternary_weights := hPre_ternary_weights)
    ∧ quiescent_ReferenceIdeal (hReferenceIdeal := hReferenceIdeal)
    ∧ quiescent_ReferenceIdeal_pre_ternary_weights (hReferenceIdeal := hReferenceIdeal) (hPre_ternary_weights := hPre_ternary_weights)
    ∧ preserves_Kernel_KernelIdeal
    ∧ algebraic_KernelIdeal_ReferenceIdeal_pre_ternary_weights (hKernelIdeal := hKernelIdeal) (hReferenceIdeal := hReferenceIdeal) (hPre_ternary_weights := hPre_ternary_weights)
-- ==== Pre_ternary_weights.lean ====
abbrev S2x128x2560 : Shape := ⟨3, ![2, 128, 2560]⟩
abbrev S2560 : Shape := ⟨1, ![2560]⟩
abbrev S640x6912 : Shape := ⟨2, ![640, 6912]⟩
abbrev S_ : Shape := ⟨0, ![]⟩
abbrev S6912 : Shape := ⟨1, ![6912]⟩
abbrev S1728x2560 : Shape := ⟨2, ![1728, 2560]⟩

class Facts : Prop where
  natLt_8_32 : 8 < 32
  bcast_S_S640x6912 : S_.BroadcastsInDim S640x6912 (![] : Fin 0 → Fin S640x6912.rank)
  bcast_S_S1728x2560 : S_.BroadcastsInDim S1728x2560 (![] : Fin 0 → Fin S1728x2560.rank)

variable [Facts]

def fn_part1 {F : FTy → Type} [FloatOps F] (main_v2 : IVec S1728x2560 32) (main_v9 : IVec S640x6912 1) (main_v16 : IVec S640x6912 1) (main_c_5 : IVec S_ 32) : IVec S640x6912 1 × IVec S640x6912 1 × IVec S1728x2560 1 :=
  let main_v17 : IVec S1728x2560 32 := broadcastInDim S1728x2560 ![] bcast_S_S1728x2560 main_c_5
  let main_v18 : IVec S1728x2560 32 := Host.shrsi main_v2 main_v17
  let main_v19 : IVec S1728x2560 32 := andi main_v2 main_v18
  let main_c_6 : IVec S_ 32 := constantI S_ 32 85#32
  let main_v20 : IVec S1728x2560 32 := broadcastInDim S1728x2560 ![] bcast_S_S1728x2560 main_c_6
  let main_v21 : IVec S1728x2560 32 := andi main_v19 main_v20
  let main_c_7 : IVec S_ 32 := constantI S_ 32 0#32
  let main_v22 : IVec S1728x2560 32 := broadcastInDim S1728x2560 ![] bcast_S_S1728x2560 main_c_7
  let main_v23 : IVec S1728x2560 1 := cmpi .eq main_v21 main_v22
  (main_v9, main_v16, main_v23)

def fn {F : FTy → Type} [FloatOps F] (main_arg0 : FVec F S2x128x2560 .bf16) (main_arg1 : FVec F S2560 .f32) (main_arg2 : IVec S640x6912 8) (main_arg3 : FVec F S_ .f32) (main_arg4 : IVec S640x6912 8) (main_arg5 : FVec F S_ .f32) (main_arg6 : FVec F S6912 .f32) (main_arg7 : IVec S1728x2560 8) (main_arg8 : FVec F S_ .f32) : IVec S640x6912 1 × IVec S640x6912 1 × IVec S1728x2560 1 :=
  let main_v0 : IVec S640x6912 32 := (extui 32 · natLt_8_32) main_arg2
  let main_v1 : IVec S640x6912 32 := (extui 32 · natLt_8_32) main_arg4
  let main_v2 : IVec S1728x2560 32 := (extui 32 · natLt_8_32) main_arg7
  let main_c : IVec S_ 32 := constantI S_ 32 1#32
  let main_v3 : IVec S640x6912 32 := broadcastInDim S640x6912 ![] bcast_S_S640x6912 main_c
  let main_v4 : IVec S640x6912 32 := Host.shrsi main_v0 main_v3
  let main_v5 : IVec S640x6912 32 := andi main_v0 main_v4
  let main_c_0 : IVec S_ 32 := constantI S_ 32 85#32
  let main_v6 : IVec S640x6912 32 := broadcastInDim S640x6912 ![] bcast_S_S640x6912 main_c_0
  let main_v7 : IVec S640x6912 32 := andi main_v5 main_v6
  let main_c_1 : IVec S_ 32 := constantI S_ 32 0#32
  let main_v8 : IVec S640x6912 32 := broadcastInDim S640x6912 ![] bcast_S_S640x6912 main_c_1
  let main_v9 : IVec S640x6912 1 := cmpi .eq main_v7 main_v8
  let main_c_2 : IVec S_ 32 := constantI S_ 32 1#32
  let main_v10 : IVec S640x6912 32 := broadcastInDim S640x6912 ![] bcast_S_S640x6912 main_c_2
  let main_v11 : IVec S640x6912 32 := Host.shrsi main_v1 main_v10
  let main_v12 : IVec S640x6912 32 := andi main_v1 main_v11
  let main_c_3 : IVec S_ 32 := constantI S_ 32 85#32
  let main_v13 : IVec S640x6912 32 := broadcastInDim S640x6912 ![] bcast_S_S640x6912 main_c_3
  let main_v14 : IVec S640x6912 32 := andi main_v12 main_v13
  let main_c_4 : IVec S_ 32 := constantI S_ 32 0#32
  let main_v15 : IVec S640x6912 32 := broadcastInDim S640x6912 ![] bcast_S_S640x6912 main_c_4
  let main_v16 : IVec S640x6912 1 := cmpi .eq main_v14 main_v15
  let main_c_5 : IVec S_ 32 := constantI S_ 32 1#32
  fn_part1 (F := F) main_v2 main_v9 main_v16 main_c_5
-- ==== Kernel.lean ====
abbrev S2x128x2560 : Shape := ⟨3, ![2, 128, 2560]⟩
abbrev S2560 : Shape := ⟨1, ![2560]⟩
abbrev S640x6912 : Shape := ⟨2, ![640, 6912]⟩
abbrev S_ : Shape := ⟨0, ![]⟩
abbrev S6912 : Shape := ⟨1, ![6912]⟩
abbrev S1728x2560 : Shape := ⟨2, ![1728, 2560]⟩
abbrev S1 : Shape := ⟨1, ![1]⟩
abbrev S3 : Shape := ⟨1, ![3]⟩
abbrev S256x2560 : Shape := ⟨2, ![256, 2560]⟩
abbrev S1x2560 : Shape := ⟨2, ![1, 2560]⟩
abbrev S1x6912 : Shape := ⟨2, ![1, 6912]⟩
abbrev S256x6912 : Shape := ⟨2, ![256, 6912]⟩
abbrev S2x128 : Shape := ⟨2, ![2, 128]⟩
abbrev S256x128 : Shape := ⟨2, ![256, 128]⟩
abbrev S3x256x128 : Shape := ⟨3, ![3, 256, 128]⟩
abbrev S8x128 : Shape := ⟨2, ![8, 128]⟩
abbrev S32x128 : Shape := ⟨2, ![32, 128]⟩
abbrev S1x128 : Shape := ⟨2, ![1, 128]⟩
abbrev S32 : Shape := ⟨1, ![32]⟩
abbrev S32x1 : Shape := ⟨2, ![32, 1]⟩
abbrev S8x128x1 : Shape := ⟨3, ![8, 128, 1]⟩
abbrev S256x256 : Shape := ⟨2, ![256, 256]⟩
abbrev S32x256 : Shape := ⟨2, ![32, 256]⟩
abbrev S8x256 : Shape := ⟨2, ![8, 256]⟩
abbrev S16x256 : Shape := ⟨2, ![16, 256]⟩
abbrev S128x256 : Shape := ⟨2, ![128, 256]⟩
abbrev S2560x256 : Shape := ⟨2, ![2560, 256]⟩
abbrev S1x256 : Shape := ⟨2, ![1, 256]⟩
abbrev S256 : Shape := ⟨1, ![256]⟩
abbrev S256x1 : Shape := ⟨2, ![256, 1]⟩
abbrev S1x256x128 : Shape := ⟨3, ![1, 256, 128]⟩
abbrev S1x32x128 : Shape := ⟨3, ![1, 32, 128]⟩
abbrev S6912x256 : Shape := ⟨2, ![6912, 256]⟩
abbrev S128x128 : Shape := ⟨2, ![128, 128]⟩
abbrev S128 : Shape := ⟨1, ![128]⟩
abbrev S1x128x128 : Shape := ⟨3, ![1, 128, 128]⟩

abbrev nBuf : Space → Nat
  | .hbm => 22
  | .vmem => 17
  | .smem => 1
  | _ => 0

abbrev bufTy : (tb : Table) → Fin (tcTables nBuf tb) → BufTy
  | .hbm, ⟨0, _⟩ => ⟨S2x128x2560, .bf16⟩
  | .hbm, ⟨1, _⟩ => ⟨S2560, .f32⟩
  | .hbm, ⟨2, _⟩ => ⟨S640x6912, .i8⟩
  | .hbm, ⟨3, _⟩ => ⟨S_, .f32⟩
  | .hbm, ⟨4, _⟩ => ⟨S640x6912, .i8⟩
  | .hbm, ⟨5, _⟩ => ⟨S_, .f32⟩
  | .hbm, ⟨6, _⟩ => ⟨S6912, .f32⟩
  | .hbm, ⟨7, _⟩ => ⟨S1728x2560, .i8⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S3, .f32⟩
  | .hbm, ⟨13, _⟩ => ⟨S256x2560, .bf16⟩
  | .hbm, ⟨14, _⟩ => ⟨S1x2560, .f32⟩
  | .hbm, ⟨15, _⟩ => ⟨S1x6912, .f32⟩
  | .hbm, ⟨16, _⟩ => ⟨S256x2560, .bf16⟩
  | .hbm, ⟨17, _⟩ => ⟨S256x6912, .bf16⟩
  | .hbm, ⟨18, _⟩ => ⟨S256x2560, .i8⟩
  | .hbm, ⟨19, _⟩ => ⟨S2x128, .f32⟩
  | .hbm, ⟨20, _⟩ => ⟨S256x6912, .i8⟩
  | .hbm, ⟨21, _⟩ => ⟨S2x128, .f32⟩
  | .local _ .vmem, ⟨0, _⟩ => ⟨S256x2560, .bf16⟩
  | .local _ .vmem, ⟨1, _⟩ => ⟨S1x2560, .f32⟩
  | .local _ .vmem, ⟨2, _⟩ => ⟨S1x6912, .f32⟩
  | .local _ .vmem, ⟨3, _⟩ => ⟨S256x2560, .bf16⟩
  | .local _ .vmem, ⟨4, _⟩ => ⟨S256x6912, .bf16⟩
  | .local _ .vmem, ⟨5, _⟩ => ⟨S256x2560, .i8⟩
  | .local _ .vmem, ⟨6, _⟩ => ⟨S2x128, .f32⟩
  | .local _ .vmem, ⟨7, _⟩ => ⟨S256x6912, .i8⟩
  | .local _ .vmem, ⟨8, _⟩ => ⟨S2x128, .f32⟩
  | .local _ .vmem, ⟨9, _⟩ => ⟨S640x6912, .i8⟩
  | .local _ .vmem, ⟨10, _⟩ => ⟨S640x6912, .i8⟩
  | .local _ .vmem, ⟨11, _⟩ => ⟨S1728x2560, .i8⟩
  | .local _ .vmem, ⟨12, _⟩ => ⟨S256x2560, .bf16⟩
  | .local _ .vmem, ⟨13, _⟩ => ⟨S256x6912, .bf16⟩
  | .local _ .vmem, ⟨14, _⟩ => ⟨S256x6912, .f32⟩
  | .local _ .vmem, ⟨15, _⟩ => ⟨S256x128, .f32⟩
  | .local _ .vmem, ⟨16, _⟩ => ⟨S3x256x128, .f32⟩
  | .local _ .smem, ⟨0, _⟩ => ⟨S3, .f32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32_2 : BitVec 32 := 0#32
  let c8_i32_3 : BitVec 32 := 8#32
  let v21 : BitVec 32 := Scalar.addi c0_i32_2 c8_i32_3
  let c1_i32_4 : BitVec 32 := 1#32
  ⟨c0_i32_2, v21, c1_i32_4⟩
def k0_mult1 (k0_t1 : Fin k0_t1_loop.trips) : BitVec 32 :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  v100
def k0_off1 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v104 : Index := Scalar.indexCast v101
  let c0_64 : Index := 0#32
  ![v104.toNat, 0]
def k0_off2 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v116 : Index := Scalar.indexCast v101
  let c128_67 : Index := 128#32
  ![v116.toNat, 128]
def k0_off3 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v128 : Index := Scalar.indexCast v101
  let c256 : Index := 256#32
  ![v128.toNat, 256]
def k0_off4 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v140 : Index := Scalar.indexCast v101
  let c384 : Index := 384#32
  ![v140.toNat, 384]
def k0_off5 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v152 : Index := Scalar.indexCast v101
  let c512 : Index := 512#32
  ![v152.toNat, 512]
def k0_off6 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v164 : Index := Scalar.indexCast v101
  let c640 : Index := 640#32
  ![v164.toNat, 640]
def k0_off7 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v176 : Index := Scalar.indexCast v101
  let c768 : Index := 768#32
  ![v176.toNat, 768]
def k0_off8 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v188 : Index := Scalar.indexCast v101
  let c896 : Index := 896#32
  ![v188.toNat, 896]
def k0_off9 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v200 : Index := Scalar.indexCast v101
  let c1024 : Index := 1024#32
  ![v200.toNat, 1024]
def k0_off10 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v212 : Index := Scalar.indexCast v101
  let c1152 : Index := 1152#32
  ![v212.toNat, 1152]
def k0_off11 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v224 : Index := Scalar.indexCast v101
  let c1280 : Index := 1280#32
  ![v224.toNat, 1280]
def k0_off12 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v236 : Index := Scalar.indexCast v101
  let c1408 : Index := 1408#32
  ![v236.toNat, 1408]
def k0_off13 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v248 : Index := Scalar.indexCast v101
  let c1536 : Index := 1536#32
  ![v248.toNat, 1536]
def k0_off14 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v260 : Index := Scalar.indexCast v101
  let c1664 : Index := 1664#32
  ![v260.toNat, 1664]
def k0_off15 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v272 : Index := Scalar.indexCast v101
  let c1792 : Index := 1792#32
  ![v272.toNat, 1792]
def k0_off16 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v284 : Index := Scalar.indexCast v101
  let c1920 : Index := 1920#32
  ![v284.toNat, 1920]
def k0_off17 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v296 : Index := Scalar.indexCast v101
  let c2048 : Index := 2048#32
  ![v296.toNat, 2048]
def k0_off18 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v308 : Index := Scalar.indexCast v101
  let c2176 : Index := 2176#32
  ![v308.toNat, 2176]
def k0_off19 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v320 : Index := Scalar.indexCast v101
  let c2304 : Index := 2304#32
  ![v320.toNat, 2304]
def k0_off20 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v332 : Index := Scalar.indexCast v101
  let c2432 : Index := 2432#32
  ![v332.toNat, 2432]
def k0_off21 (k0_t1 : Fin k0_t1_loop.trips) : Fin 2 → Nat :=
  let c0_i32_2 : BitVec 32 := 0#32
  let c1_i32_4 : BitVec 32 := 1#32
  let arg22 : BitVec 32 := Scf.iv c0_i32_2 c1_i32_4 k0_t1
  let c32_i32 : BitVec 32 := 32#32
  let v100 : BitVec 32 := Scalar.muli arg22 c32_i32
  let v101 : BitVec 32 := v100
  let v366 : Index := Scalar.indexCast v101
  let c0_115 : Index := 0#32
  ![v366.toNat, 0]
@[reducible] def k0_t2_loop : Scf.Loop 32 :=
  let c0_i32_9 : BitVec 32 := 0#32
  let c27_i32 : BitVec 32 := 27#32
  let v32 : BitVec 32 := Scalar.addi c0_i32_9 c27_i32
  let c1_i32_10 : BitVec 32 := 1#32
  ⟨c0_i32_9, v32, c1_i32_10⟩
def k0_mult2 (k0_t2 : Fin k0_t2_loop.trips) : BitVec 32 :=
  let c0_i32_9 : BitVec 32 := 0#32
  let c1_i32_10 : BitVec 32 := 1#32
  let arg22 : BitVec 32 := Scf.iv c0_i32_9 c1_i32_10 k0_t2
  let c256_i32 : BitVec 32 := 256#32
  let v100 : BitVec 32 := Scalar.muli arg22 c256_i32
  v100
def k0_mult3 (k0_t2 : Fin k0_t2_loop.trips) : BitVec 32 :=
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  v108
def k0_off22 (k0_t2 : Fin k0_t2_loop.trips) : Fin 2 → Nat :=
  let c0_70 : Index := 0#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v110 : Index := Scalar.indexCast v109
  ![0, v110.toNat]
def k0_off23 (k0_t2 : Fin k0_t2_loop.trips) : Fin 2 → Nat :=
  let c32 : Index := 32#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v154 : Index := Scalar.indexCast v109
  ![32, v154.toNat]
def k0_off24 (k0_t2 : Fin k0_t2_loop.trips) : Fin 2 → Nat :=
  let c64 : Index := 64#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v198 : Index := Scalar.indexCast v109
  ![64, v198.toNat]
def k0_off25 (k0_t2 : Fin k0_t2_loop.trips) : Fin 2 → Nat :=
  let c96 : Index := 96#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v242 : Index := Scalar.indexCast v109
  ![96, v242.toNat]
def k0_off26 (k0_t2 : Fin k0_t2_loop.trips) : Fin 2 → Nat :=
  let c128_130 : Index := 128#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v286 : Index := Scalar.indexCast v109
  ![128, v286.toNat]
def k0_off27 (k0_t2 : Fin k0_t2_loop.trips) : Fin 2 → Nat :=
  let c160 : Index := 160#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v330 : Index := Scalar.indexCast v109
  ![160, v330.toNat]
def k0_off28 (k0_t2 : Fin k0_t2_loop.trips) : Fin 2 → Nat :=
  let c192 : Index := 192#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v374 : Index := Scalar.indexCast v109
  ![192, v374.toNat]
def k0_off29 (k0_t2 : Fin k0_t2_loop.trips) : Fin 2 → Nat :=
  let c224 : Index := 224#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v418 : Index := Scalar.indexCast v109
  ![224, v418.toNat]
def k0_off30 (k0_t2 : Fin k0_t2_loop.trips) : Fin 2 → Nat :=
  let c256 : Index := 256#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v462 : Index := Scalar.indexCast v109
  ![256, v462.toNat]
def k0_off31 (k0_t2 : Fin k0_t2_loop.trips) : Fin 2 → Nat :=
  let c288 : Index := 288#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v506 : Index := Scalar.indexCast v109
  ![288, v506.toNat]
def k0_off32 (k0_t2 : Fin k0_t2_loop.trips) : Fin 2 → Nat :=
  let c320 : Index := 320#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v550 : Index := Scalar.indexCast v109
  ![320, v550.toNat]
def k0_off33 (k0_t2 : Fin k0_t2_loop.trips) : Fin 2 → Nat :=
  let c352 : Index := 352#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v594 : Index := Scalar.indexCast v109
  ![352, v594.toNat]
def k0_off34 (k0_t2 : Fin k0_t2_loop.trips) : Fin 2 → Nat :=
  let c384 : Index := 384#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v638 : Index := Scalar.indexCast v109
  ![384, v638.toNat]
def k0_off35 (k0_t2 : Fin k0_t2_loop.trips) : Fin 2 → Nat :=
  let c416 : Index := 416#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v682 : Index := Scalar.indexCast v109
  ![416, v682.toNat]
def k0_off36 (k0_t2 : Fin k0_t2_loop.trips) : Fin 2 → Nat :=
  let c448 : Index := 448#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v726 : Index := Scalar.indexCast v109
  ![448, v726.toNat]
def k0_off37 (k0_t2 : Fin k0_t2_loop.trips) : Fin 2 → Nat :=
  let c480 : Index := 480#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v770 : Index := Scalar.indexCast v109
  ![480, v770.toNat]
def k0_off38 (k0_t2 : Fin k0_t2_loop.trips) : Fin 2 → Nat :=
  let c512 : Index := 512#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v814 : Index := Scalar.indexCast v109
  ![512, v814.toNat]
def k0_off39 (k0_t2 : Fin k0_t2_loop.trips) : Fin 2 → Nat :=
  let c544 : Index := 544#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v858 : Index := Scalar.indexCast v109
  ![544, v858.toNat]
def k0_off40 (k0_t2 : Fin k0_t2_loop.trips) : Fin 2 → Nat :=
  let c576 : Index := 576#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v902 : Index := Scalar.indexCast v109
  ![576, v902.toNat]
def k0_off41 (k0_t2 : Fin k0_t2_loop.trips) : Fin 2 → Nat :=
  let c608 : Index := 608#32
  let c0_i32_9 : BitVec 32 := 0#32
  let c1_i32_10 : BitVec 32 := 1#32
  let arg22 : BitVec 32 := Scf.iv c0_i32_9 c1_i32_10 k0_t2
  let c256_i32_69 : BitVec 32 := 256#32
  let v108 : BitVec 32 := Scalar.muli arg22 c256_i32_69
  let v109 : BitVec 32 := v108
  let v946 : Index := Scalar.indexCast v109
  ![608, v946.toNat]
def k0_mult4 (k0_t2 : Fin k0_t2_loop.trips) : BitVec 32 :=
  let c0_i32_9 : BitVec 32 := 0#32
  let c1_i32_10 : BitVec 32 := 1#32
  let arg22 : BitVec 32 := Scf.iv c0_i32_9 c1_i32_10 k0_t2
  let c256_i32_390 : BitVec 32 := 256#32
  let v993 : BitVec 32 := Scalar.muli arg22 c256_i32_390
  v993
def k0_off42 (k0_t2 : Fin k0_t2_loop.trips) : Fin 2 → Nat :=
  let c0_733 : Index := 0#32
  let c0_i32_9 : BitVec 32 := 0#32
  let c1_i32_10 : BitVec 32 := 1#32
  let arg22 : BitVec 32 := Scf.iv c0_i32_9 c1_i32_10 k0_t2
  let c256_i32 : BitVec 32 := 256#32
  let v100 : BitVec 32 := Scalar.muli arg22 c256_i32
  let v101 : BitVec 32 := v100
  let v1888 : Index := Scalar.indexCast v101
  ![0, v1888.toNat]
def k0_off43 (k0_t2 : Fin k0_t2_loop.trips) : Fin 2 → Nat :=
  let c0_735 : Index := 0#32
  let c0_i32_9 : BitVec 32 := 0#32
  let c1_i32_10 : BitVec 32 := 1#32
  let arg22 : BitVec 32 := Scf.iv c0_i32_9 c1_i32_10 k0_t2
  let c256_i32 : BitVec 32 := 256#32
  let v100 : BitVec 32 := Scalar.muli arg22 c256_i32
  let v101 : BitVec 32 := v100
  let v1895 : Index := Scalar.indexCast v101
  ![0, v1895.toNat]
@[reducible] def k0_t3_loop : Scf.Loop 32 :=
  let c0_i32_30 : BitVec 32 := 0#32
  let c8_i32_31 : BitVec 32 := 8#32
  let v69 : BitVec 32 := Scalar.addi c0_i32_30 c8_i32_31
  let c1_i32_32 : BitVec 32 := 1#32
  ⟨c0_i32_30, v69, c1_i32_32⟩
def k0_mult5 (k0_t3 : Fin k0_t3_loop.trips) : BitVec 32 :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  v100
def k0_off44 (k0_t3 : Fin k0_t3_loop.trips) : Fin 3 → Nat :=
  let c0_62 : Index := 0#32
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v102 : Index := Scalar.indexCast v101
  let c0_63 : Index := 0#32
  ![0, v102.toNat, 0]
def k0_off45 (k0_t3 : Fin k0_t3_loop.trips) : Fin 3 → Nat :=
  let c1_64 : Index := 1#32
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v105 : Index := Scalar.indexCast v101
  let c0_65 : Index := 0#32
  ![1, v105.toNat, 0]
def k0_off46 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v108 : Index := Scalar.indexCast v101
  let c0_66 : Index := 0#32
  ![v108.toNat, 0]
def k0_off47 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v139 : Index := Scalar.indexCast v101
  let c128_74 : Index := 128#32
  ![v139.toNat, 128]
def k0_off48 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v170 : Index := Scalar.indexCast v101
  let c256 : Index := 256#32
  ![v170.toNat, 256]
def k0_off49 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v201 : Index := Scalar.indexCast v101
  let c384 : Index := 384#32
  ![v201.toNat, 384]
def k0_off50 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v232 : Index := Scalar.indexCast v101
  let c512 : Index := 512#32
  ![v232.toNat, 512]
def k0_off51 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v263 : Index := Scalar.indexCast v101
  let c640 : Index := 640#32
  ![v263.toNat, 640]
def k0_off52 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v294 : Index := Scalar.indexCast v101
  let c768 : Index := 768#32
  ![v294.toNat, 768]
def k0_off53 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v325 : Index := Scalar.indexCast v101
  let c896 : Index := 896#32
  ![v325.toNat, 896]
def k0_off54 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v356 : Index := Scalar.indexCast v101
  let c1024 : Index := 1024#32
  ![v356.toNat, 1024]
def k0_off55 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v387 : Index := Scalar.indexCast v101
  let c1152 : Index := 1152#32
  ![v387.toNat, 1152]
def k0_off56 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v418 : Index := Scalar.indexCast v101
  let c1280 : Index := 1280#32
  ![v418.toNat, 1280]
def k0_off57 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v449 : Index := Scalar.indexCast v101
  let c1408 : Index := 1408#32
  ![v449.toNat, 1408]
def k0_off58 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v480 : Index := Scalar.indexCast v101
  let c1536 : Index := 1536#32
  ![v480.toNat, 1536]
def k0_off59 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v511 : Index := Scalar.indexCast v101
  let c1664 : Index := 1664#32
  ![v511.toNat, 1664]
def k0_off60 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v542 : Index := Scalar.indexCast v101
  let c1792 : Index := 1792#32
  ![v542.toNat, 1792]
def k0_off61 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v573 : Index := Scalar.indexCast v101
  let c1920 : Index := 1920#32
  ![v573.toNat, 1920]
def k0_off62 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v604 : Index := Scalar.indexCast v101
  let c2048 : Index := 2048#32
  ![v604.toNat, 2048]
def k0_off63 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v635 : Index := Scalar.indexCast v101
  let c2176 : Index := 2176#32
  ![v635.toNat, 2176]
def k0_off64 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v666 : Index := Scalar.indexCast v101
  let c2304 : Index := 2304#32
  ![v666.toNat, 2304]
def k0_off65 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v697 : Index := Scalar.indexCast v101
  let c2432 : Index := 2432#32
  ![v697.toNat, 2432]
def k0_off66 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v728 : Index := Scalar.indexCast v101
  let c2560 : Index := 2560#32
  ![v728.toNat, 2560]
def k0_off67 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v759 : Index := Scalar.indexCast v101
  let c2688 : Index := 2688#32
  ![v759.toNat, 2688]
def k0_off68 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v790 : Index := Scalar.indexCast v101
  let c2816 : Index := 2816#32
  ![v790.toNat, 2816]
def k0_off69 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v821 : Index := Scalar.indexCast v101
  let c2944 : Index := 2944#32
  ![v821.toNat, 2944]
def k0_off70 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v852 : Index := Scalar.indexCast v101
  let c3072 : Index := 3072#32
  ![v852.toNat, 3072]
def k0_off71 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v883 : Index := Scalar.indexCast v101
  let c3200 : Index := 3200#32
  ![v883.toNat, 3200]
def k0_off72 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v914 : Index := Scalar.indexCast v101
  let c3328 : Index := 3328#32
  ![v914.toNat, 3328]
def k0_off73 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v945 : Index := Scalar.indexCast v101
  let c3456 : Index := 3456#32
  ![v945.toNat, 3456]
def k0_off74 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v976 : Index := Scalar.indexCast v101
  let c3584 : Index := 3584#32
  ![v976.toNat, 3584]
def k0_off75 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1007 : Index := Scalar.indexCast v101
  let c3712 : Index := 3712#32
  ![v1007.toNat, 3712]
def k0_off76 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1038 : Index := Scalar.indexCast v101
  let c3840 : Index := 3840#32
  ![v1038.toNat, 3840]
def k0_off77 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1069 : Index := Scalar.indexCast v101
  let c3968 : Index := 3968#32
  ![v1069.toNat, 3968]
def k0_off78 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1100 : Index := Scalar.indexCast v101
  let c4096 : Index := 4096#32
  ![v1100.toNat, 4096]
def k0_off79 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1131 : Index := Scalar.indexCast v101
  let c4224 : Index := 4224#32
  ![v1131.toNat, 4224]
def k0_off80 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1162 : Index := Scalar.indexCast v101
  let c4352 : Index := 4352#32
  ![v1162.toNat, 4352]
def k0_off81 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1193 : Index := Scalar.indexCast v101
  let c4480 : Index := 4480#32
  ![v1193.toNat, 4480]
def k0_off82 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1224 : Index := Scalar.indexCast v101
  let c4608 : Index := 4608#32
  ![v1224.toNat, 4608]
def k0_off83 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1255 : Index := Scalar.indexCast v101
  let c4736 : Index := 4736#32
  ![v1255.toNat, 4736]
def k0_off84 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1286 : Index := Scalar.indexCast v101
  let c4864 : Index := 4864#32
  ![v1286.toNat, 4864]
def k0_off85 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1317 : Index := Scalar.indexCast v101
  let c4992 : Index := 4992#32
  ![v1317.toNat, 4992]
def k0_off86 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1348 : Index := Scalar.indexCast v101
  let c5120 : Index := 5120#32
  ![v1348.toNat, 5120]
def k0_off87 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1379 : Index := Scalar.indexCast v101
  let c5248 : Index := 5248#32
  ![v1379.toNat, 5248]
def k0_off88 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1410 : Index := Scalar.indexCast v101
  let c5376 : Index := 5376#32
  ![v1410.toNat, 5376]
def k0_off89 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1441 : Index := Scalar.indexCast v101
  let c5504 : Index := 5504#32
  ![v1441.toNat, 5504]
def k0_off90 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1472 : Index := Scalar.indexCast v101
  let c5632 : Index := 5632#32
  ![v1472.toNat, 5632]
def k0_off91 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1503 : Index := Scalar.indexCast v101
  let c5760 : Index := 5760#32
  ![v1503.toNat, 5760]
def k0_off92 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1534 : Index := Scalar.indexCast v101
  let c5888 : Index := 5888#32
  ![v1534.toNat, 5888]
def k0_off93 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1565 : Index := Scalar.indexCast v101
  let c6016 : Index := 6016#32
  ![v1565.toNat, 6016]
def k0_off94 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1596 : Index := Scalar.indexCast v101
  let c6144 : Index := 6144#32
  ![v1596.toNat, 6144]
def k0_off95 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1627 : Index := Scalar.indexCast v101
  let c6272 : Index := 6272#32
  ![v1627.toNat, 6272]
def k0_off96 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1658 : Index := Scalar.indexCast v101
  let c6400 : Index := 6400#32
  ![v1658.toNat, 6400]
def k0_off97 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1689 : Index := Scalar.indexCast v101
  let c6528 : Index := 6528#32
  ![v1689.toNat, 6528]
def k0_off98 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1720 : Index := Scalar.indexCast v101
  let c6656 : Index := 6656#32
  ![v1720.toNat, 6656]
def k0_off99 (k0_t3 : Fin k0_t3_loop.trips) : Fin 2 → Nat :=
  let c0_i32_30 : BitVec 32 := 0#32
  let c1_i32_32 : BitVec 32 := 1#32
  let arg22 : BitVec 32 := Scf.iv c0_i32_30 c1_i32_32 k0_t3
  let c32_i32 : BitVec 32 := 32#32
  let v100 : BitVec 32 := Scalar.muli arg22 c32_i32
  let v101 : BitVec 32 := v100
  let v1751 : Index := Scalar.indexCast v101
  let c6784 : Index := 6784#32
  ![v1751.toNat, 6784]
@[reducible] def k0_t4_loop : Scf.Loop 32 :=
  let c0_i32_34 : BitVec 32 := 0#32
  let c10_i32 : BitVec 32 := 10#32
  let v70 : BitVec 32 := Scalar.addi c0_i32_34 c10_i32
  let c1_i32_35 : BitVec 32 := 1#32
  ⟨c0_i32_34, v70, c1_i32_35⟩
def k0_mult6 (k0_t4 : Fin k0_t4_loop.trips) : BitVec 32 :=
  let c0_i32_34 : BitVec 32 := 0#32
  let c1_i32_35 : BitVec 32 := 1#32
  let arg22 : BitVec 32 := Scf.iv c0_i32_34 c1_i32_35 k0_t4
  let c256_i32 : BitVec 32 := 256#32
  let v100 : BitVec 32 := Scalar.muli arg22 c256_i32
  v100
def k0_mult7 (k0_t4 : Fin k0_t4_loop.trips) : BitVec 32 :=
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  v103
def k0_off100 (k0_t4 : Fin k0_t4_loop.trips) : Fin 2 → Nat :=
  let c0_65 : Index := 0#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v105 : Index := Scalar.indexCast v104
  ![0, v105.toNat]
def k0_off101 (k0_t4 : Fin k0_t4_loop.trips) : Fin 2 → Nat :=
  let c32 : Index := 32#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v149 : Index := Scalar.indexCast v104
  ![32, v149.toNat]
def k0_off102 (k0_t4 : Fin k0_t4_loop.trips) : Fin 2 → Nat :=
  let c64 : Index := 64#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v193 : Index := Scalar.indexCast v104
  ![64, v193.toNat]
def k0_off103 (k0_t4 : Fin k0_t4_loop.trips) : Fin 2 → Nat :=
  let c96 : Index := 96#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v237 : Index := Scalar.indexCast v104
  ![96, v237.toNat]
def k0_off104 (k0_t4 : Fin k0_t4_loop.trips) : Fin 2 → Nat :=
  let c128_125 : Index := 128#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v281 : Index := Scalar.indexCast v104
  ![128, v281.toNat]
def k0_off105 (k0_t4 : Fin k0_t4_loop.trips) : Fin 2 → Nat :=
  let c160 : Index := 160#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v325 : Index := Scalar.indexCast v104
  ![160, v325.toNat]
def k0_off106 (k0_t4 : Fin k0_t4_loop.trips) : Fin 2 → Nat :=
  let c192 : Index := 192#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v369 : Index := Scalar.indexCast v104
  ![192, v369.toNat]
def k0_off107 (k0_t4 : Fin k0_t4_loop.trips) : Fin 2 → Nat :=
  let c224 : Index := 224#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v413 : Index := Scalar.indexCast v104
  ![224, v413.toNat]
def k0_off108 (k0_t4 : Fin k0_t4_loop.trips) : Fin 2 → Nat :=
  let c256 : Index := 256#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v457 : Index := Scalar.indexCast v104
  ![256, v457.toNat]
def k0_off109 (k0_t4 : Fin k0_t4_loop.trips) : Fin 2 → Nat :=
  let c288 : Index := 288#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v501 : Index := Scalar.indexCast v104
  ![288, v501.toNat]
def k0_off110 (k0_t4 : Fin k0_t4_loop.trips) : Fin 2 → Nat :=
  let c320 : Index := 320#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v545 : Index := Scalar.indexCast v104
  ![320, v545.toNat]
def k0_off111 (k0_t4 : Fin k0_t4_loop.trips) : Fin 2 → Nat :=
  let c352 : Index := 352#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v589 : Index := Scalar.indexCast v104
  ![352, v589.toNat]
def k0_off112 (k0_t4 : Fin k0_t4_loop.trips) : Fin 2 → Nat :=
  let c384 : Index := 384#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v633 : Index := Scalar.indexCast v104
  ![384, v633.toNat]
def k0_off113 (k0_t4 : Fin k0_t4_loop.trips) : Fin 2 → Nat :=
  let c416 : Index := 416#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v677 : Index := Scalar.indexCast v104
  ![416, v677.toNat]
def k0_off114 (k0_t4 : Fin k0_t4_loop.trips) : Fin 2 → Nat :=
  let c448 : Index := 448#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v721 : Index := Scalar.indexCast v104
  ![448, v721.toNat]
def k0_off115 (k0_t4 : Fin k0_t4_loop.trips) : Fin 2 → Nat :=
  let c480 : Index := 480#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v765 : Index := Scalar.indexCast v104
  ![480, v765.toNat]
def k0_off116 (k0_t4 : Fin k0_t4_loop.trips) : Fin 2 → Nat :=
  let c512 : Index := 512#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v809 : Index := Scalar.indexCast v104
  ![512, v809.toNat]
def k0_off117 (k0_t4 : Fin k0_t4_loop.trips) : Fin 2 → Nat :=
  let c544 : Index := 544#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v853 : Index := Scalar.indexCast v104
  ![544, v853.toNat]
def k0_off118 (k0_t4 : Fin k0_t4_loop.trips) : Fin 2 → Nat :=
  let c576 : Index := 576#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v897 : Index := Scalar.indexCast v104
  ![576, v897.toNat]
def k0_off119 (k0_t4 : Fin k0_t4_loop.trips) : Fin 2 → Nat :=
  let c608 : Index := 608#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v941 : Index := Scalar.indexCast v104
  ![608, v941.toNat]
def k0_off120 (k0_t4 : Fin k0_t4_loop.trips) : Fin 2 → Nat :=
  let c640 : Index := 640#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v985 : Index := Scalar.indexCast v104
  ![640, v985.toNat]
def k0_off121 (k0_t4 : Fin k0_t4_loop.trips) : Fin 2 → Nat :=
  let c672 : Index := 672#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1029 : Index := Scalar.indexCast v104
  ![672, v1029.toNat]
def k0_off122 (k0_t4 : Fin k0_t4_loop.trips) : Fin 2 → Nat :=
  let c704 : Index := 704#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1073 : Index := Scalar.indexCast v104
  ![704, v1073.toNat]
def k0_off123 (k0_t4 : Fin k0_t4_loop.trips) : Fin 2 → Nat :=
  let c736 : Index := 736#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1117 : Index := Scalar.indexCast v104
  ![736, v1117.toNat]
def k0_off124 (k0_t4 : Fin k0_t4_loop.trips) : Fin 2 → Nat :=
  let c768 : Index := 768#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1161 : Index := Scalar.indexCast v104
  ![768, v1161.toNat]
def k0_off125 (k0_t4 : Fin k0_t4_loop.trips) : Fin 2 → Nat :=
  let c800 : Index := 800#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1205 : Index := Scalar.indexCast v104
  ![800, v1205.toNat]
def k0_off126 (k0_t4 : Fin k0_t4_loop.trips) : Fin 2 → Nat :=
  let c832 : Index := 832#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1249 : Index := Scalar.indexCast v104
  ![832, v1249.toNat]
def k0_off127 (k0_t4 : Fin k0_t4_loop.trips) : Fin 2 → Nat :=
  let c864 : Index := 864#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1293 : Index := Scalar.indexCast v104
  ![864, v1293.toNat]
def k0_off128 (k0_t4 : Fin k0_t4_loop.trips) : Fin 2 → Nat :=
  let c896 : Index := 896#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1337 : Index := Scalar.indexCast v104
  ![896, v1337.toNat]
def k0_off129 (k0_t4 : Fin k0_t4_loop.trips) : Fin 2 → Nat :=
  let c928 : Index := 928#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1381 : Index := Scalar.indexCast v104
  ![928, v1381.toNat]
def k0_off130 (k0_t4 : Fin k0_t4_loop.trips) : Fin 2 → Nat :=
  let c960 : Index := 960#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1425 : Index := Scalar.indexCast v104
  ![960, v1425.toNat]
def k0_off131 (k0_t4 : Fin k0_t4_loop.trips) : Fin 2 → Nat :=
  let c992 : Index := 992#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1469 : Index := Scalar.indexCast v104
  ![992, v1469.toNat]
def k0_off132 (k0_t4 : Fin k0_t4_loop.trips) : Fin 2 → Nat :=
  let c1024 : Index := 1024#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1513 : Index := Scalar.indexCast v104
  ![1024, v1513.toNat]
def k0_off133 (k0_t4 : Fin k0_t4_loop.trips) : Fin 2 → Nat :=
  let c1056 : Index := 1056#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1557 : Index := Scalar.indexCast v104
  ![1056, v1557.toNat]
def k0_off134 (k0_t4 : Fin k0_t4_loop.trips) : Fin 2 → Nat :=
  let c1088 : Index := 1088#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1601 : Index := Scalar.indexCast v104
  ![1088, v1601.toNat]
def k0_off135 (k0_t4 : Fin k0_t4_loop.trips) : Fin 2 → Nat :=
  let c1120 : Index := 1120#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1645 : Index := Scalar.indexCast v104
  ![1120, v1645.toNat]
def k0_off136 (k0_t4 : Fin k0_t4_loop.trips) : Fin 2 → Nat :=
  let c1152 : Index := 1152#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1689 : Index := Scalar.indexCast v104
  ![1152, v1689.toNat]
def k0_off137 (k0_t4 : Fin k0_t4_loop.trips) : Fin 2 → Nat :=
  let c1184 : Index := 1184#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1733 : Index := Scalar.indexCast v104
  ![1184, v1733.toNat]
def k0_off138 (k0_t4 : Fin k0_t4_loop.trips) : Fin 2 → Nat :=
  let c1216 : Index := 1216#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1777 : Index := Scalar.indexCast v104
  ![1216, v1777.toNat]
def k0_off139 (k0_t4 : Fin k0_t4_loop.trips) : Fin 2 → Nat :=
  let c1248 : Index := 1248#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1821 : Index := Scalar.indexCast v104
  ![1248, v1821.toNat]
def k0_off140 (k0_t4 : Fin k0_t4_loop.trips) : Fin 2 → Nat :=
  let c1280 : Index := 1280#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1865 : Index := Scalar.indexCast v104
  ![1280, v1865.toNat]
def k0_off141 (k0_t4 : Fin k0_t4_loop.trips) : Fin 2 → Nat :=
  let c1312 : Index := 1312#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1909 : Index := Scalar.indexCast v104
  ![1312, v1909.toNat]
def k0_off142 (k0_t4 : Fin k0_t4_loop.trips) : Fin 2 → Nat :=
  let c1344 : Index := 1344#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1953 : Index := Scalar.indexCast v104
  ![1344, v1953.toNat]
def k0_off143 (k0_t4 : Fin k0_t4_loop.trips) : Fin 2 → Nat :=
  let c1376 : Index := 1376#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v1997 : Index := Scalar.indexCast v104
  ![1376, v1997.toNat]
def k0_off144 (k0_t4 : Fin k0_t4_loop.trips) : Fin 2 → Nat :=
  let c1408 : Index := 1408#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v2041 : Index := Scalar.indexCast v104
  ![1408, v2041.toNat]
def k0_off145 (k0_t4 : Fin k0_t4_loop.trips) : Fin 2 → Nat :=
  let c1440 : Index := 1440#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v2085 : Index := Scalar.indexCast v104
  ![1440, v2085.toNat]
def k0_off146 (k0_t4 : Fin k0_t4_loop.trips) : Fin 2 → Nat :=
  let c1472 : Index := 1472#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v2129 : Index := Scalar.indexCast v104
  ![1472, v2129.toNat]
def k0_off147 (k0_t4 : Fin k0_t4_loop.trips) : Fin 2 → Nat :=
  let c1504 : Index := 1504#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v2173 : Index := Scalar.indexCast v104
  ![1504, v2173.toNat]
def k0_off148 (k0_t4 : Fin k0_t4_loop.trips) : Fin 2 → Nat :=
  let c1536 : Index := 1536#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v2217 : Index := Scalar.indexCast v104
  ![1536, v2217.toNat]
def k0_off149 (k0_t4 : Fin k0_t4_loop.trips) : Fin 2 → Nat :=
  let c1568 : Index := 1568#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v2261 : Index := Scalar.indexCast v104
  ![1568, v2261.toNat]
def k0_off150 (k0_t4 : Fin k0_t4_loop.trips) : Fin 2 → Nat :=
  let c1600 : Index := 1600#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v2305 : Index := Scalar.indexCast v104
  ![1600, v2305.toNat]
def k0_off151 (k0_t4 : Fin k0_t4_loop.trips) : Fin 2 → Nat :=
  let c1632 : Index := 1632#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v2349 : Index := Scalar.indexCast v104
  ![1632, v2349.toNat]
def k0_off152 (k0_t4 : Fin k0_t4_loop.trips) : Fin 2 → Nat :=
  let c1664 : Index := 1664#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v2393 : Index := Scalar.indexCast v104
  ![1664, v2393.toNat]
def k0_off153 (k0_t4 : Fin k0_t4_loop.trips) : Fin 2 → Nat :=
  let c1696 : Index := 1696#32
  let c0_i32_34 : BitVec 32 := 0#32
  let c1_i32_35 : BitVec 32 := 1#32
  let arg22 : BitVec 32 := Scf.iv c0_i32_34 c1_i32_35 k0_t4
  let c256_i32_64 : BitVec 32 := 256#32
  let v103 : BitVec 32 := Scalar.muli arg22 c256_i32_64
  let v104 : BitVec 32 := v103
  let v2437 : Index := Scalar.indexCast v104
  ![1696, v2437.toNat]
def k0_off154 (k0_t4 : Fin k0_t4_loop.trips) : Fin 2 → Nat :=
  let c0_934 : Index := 0#32
  let c0_i32_34 : BitVec 32 := 0#32
  let c1_i32_35 : BitVec 32 := 1#32
  let arg22 : BitVec 32 := Scf.iv c0_i32_34 c1_i32_35 k0_t4
  let c256_i32 : BitVec 32 := 256#32
  let v100 : BitVec 32 := Scalar.muli arg22 c256_i32
  let v101 : BitVec 32 := v100
  let v2493 : Index := Scalar.indexCast v101
  ![0, v2493.toNat]
abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x6912 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x2560 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x6912 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2x128x2560 : Shape := ⟨3, ![2, 128, 2560]⟩
abbrev S2560 : Shape := ⟨1, ![2560]⟩
abbrev S640x6912 : Shape := ⟨2, ![640, 6912]⟩
abbrev S_ : Shape := ⟨0, ![]⟩
abbrev S6912 : Shape := ⟨1, ![6912]⟩
abbrev S1728x2560 : Shape := ⟨2, ![1728, 2560]⟩
abbrev S256x2560 : Shape := ⟨2, ![256, 2560]⟩
abbrev S1x2560 : Shape := ⟨2, ![1, 2560]⟩
abbrev S1x6912 : Shape := ⟨2, ![1, 6912]⟩
abbrev S1x1 : Shape := ⟨2, ![1, 1]⟩
abbrev S256x6912 : Shape := ⟨2, ![256, 6912]⟩
abbrev S2x128 : Shape := ⟨2, ![2, 128]⟩
abbrev S256 : Shape := ⟨1, ![256]⟩
abbrev S256x1 : Shape := ⟨2, ![256, 1]⟩
abbrev S256x640x4 : Shape := ⟨3, ![256, 640, 4]⟩
abbrev S256x640x1 : Shape := ⟨3, ![256, 640, 1]⟩
abbrev S256x640 : Shape := ⟨2, ![256, 640]⟩
abbrev S256x1728x4 : Shape := ⟨3, ![256, 1728, 4]⟩
abbrev S256x1728x1 : Shape := ⟨3, ![256, 1728, 1]⟩
abbrev S256x1728 : Shape := ⟨2, ![256, 1728]⟩

abbrev nBuf : Space → Nat
  | .hbm => 21
  | .vmem => 15
  | .smem => 0
  | _ => 0

abbrev bufTy : (tb : Table) → Fin (tcTables nBuf tb) → BufTy
  | .hbm, ⟨0, _⟩ => ⟨S2x128x2560, .bf16⟩
  | .hbm, ⟨1, _⟩ => ⟨S2560, .f32⟩
  | .hbm, ⟨2, _⟩ => ⟨S640x6912, .i8⟩
  | .hbm, ⟨3, _⟩ => ⟨S_, .f32⟩
  | .hbm, ⟨4, _⟩ => ⟨S640x6912, .i8⟩
  | .hbm, ⟨5, _⟩ => ⟨S_, .f32⟩
  | .hbm, ⟨6, _⟩ => ⟨S6912, .f32⟩
  | .hbm, ⟨7, _⟩ => ⟨S1728x2560, .i8⟩
  | .hbm, ⟨8, _⟩ => ⟨S_, .f32⟩
  | .hbm, ⟨9, _⟩ => ⟨S256x2560, .bf16⟩
  | .hbm, ⟨10, _⟩ => ⟨S1x2560, .f32⟩
  | .hbm, ⟨11, _⟩ => ⟨S1x6912, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S256x2560, .bf16⟩
  | .hbm, ⟨16, _⟩ => ⟨S256x6912, .bf16⟩
  | .hbm, ⟨17, _⟩ => ⟨S256x2560, .i8⟩
  | .hbm, ⟨18, _⟩ => ⟨S2x128, .f32⟩
  | .hbm, ⟨19, _⟩ => ⟨S256x6912, .i8⟩
  | .hbm, ⟨20, _⟩ => ⟨S2x128, .f32⟩
  | .local _ .vmem, ⟨0, _⟩ => ⟨S256x2560, .bf16⟩
  | .local _ .vmem, ⟨1, _⟩ => ⟨S1x2560, .f32⟩
  | .local _ .vmem, ⟨2, _⟩ => ⟨S1x6912, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S640x6912, .i8⟩
  | .local _ .vmem, ⟨7, _⟩ => ⟨S640x6912, .i8⟩
  | .local _ .vmem, ⟨8, _⟩ => ⟨S1728x2560, .i8⟩
  | .local _ .vmem, ⟨9, _⟩ => ⟨S256x2560, .bf16⟩
  | .local _ .vmem, ⟨10, _⟩ => ⟨S256x6912, .bf16⟩
  | .local _ .vmem, ⟨11, _⟩ => ⟨S256x2560, .i8⟩
  | .local _ .vmem, ⟨12, _⟩ => ⟨S2x128, .f32⟩
  | .local _ .vmem, ⟨13, _⟩ => ⟨S256x6912, .i8⟩
  | .local _ .vmem, ⟨14, _⟩ => ⟨S2x128, .f32⟩
  | _, _ => ⟨S2x128x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x6912 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S640x6912 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1728x2560 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x6912 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x2560 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x6912 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.RunAK.lean ====
/- A copy of the generated module `Gen/Kernel/Frame/RunA.lean`, with a larger heartbeat budget for its one definition (the generated budget is too small for this kernel). -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Writes that cover a whole buffer leave the same contents whatever it held before. -/
theorem writes_rebase {sp : Space} {s : Shape} {e : EltTy} {m : Memref sig .tc sp s e} (h : m.IsWhole) (f g : m.view.ty.Contents (Elt F))
    (L : List (View.Piece (Elt F) s e)) (hL : ∀ y, ∃ p ∈ L, y ∈ p.1.set) :
    m.view.writes (Elt F) f L = m.view.writes (Elt F) g L :=
  (h.eq_unread (View.read_writes_of_cover _ f _ g L hL)).trans (h.eq_unread rfl).symm

/-- The pieces loop `k0_t1` writes to `arg16` cover it, so the contents it had before do not matter. -/
theorem rebase_codes (𝒱 : Variants) (c : Dev nD) (bd : Option 𝒱.V) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg4 : Memref sig .tc .hbm S640x6912 .i8) (harg4 : arg4.IsWhole) (arg5 : Memref sig .tc .hbm S640x6912 .i8) (harg5 : arg5.IsWhole) (arg6 : Memref sig .tc .hbm S1728x2560 .i8) (harg6 : arg6.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole) (arg21 : DmaSems sig S3) (X_arg0 : BufTy.Contents (Elt F) arg0.view.ty) (X_arg1 : BufTy.Contents (Elt F) arg1.view.ty) (f : BufTy.Contents (Elt F) arg16.view.ty) :
    arg16.view.writes (Elt F) f (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.1
      = arg16.view.writes (Elt F) arg16.view.junk (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.1 :=
  writes_rebase harg16 _ _ _ (View.cover_of_tiledL _ S32x128.size (by sl_kernel_rfl))

/-- The pieces loop `k0_t1` writes to `arg19` cover it, so the contents it had before do not matter. -/
theorem rebase_scales (𝒱 : Variants) (c : Dev nD) (bd : Option 𝒱.V) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg4 : Memref sig .tc .hbm S640x6912 .i8) (harg4 : arg4.IsWhole) (arg5 : Memref sig .tc .hbm S640x6912 .i8) (harg5 : arg5.IsWhole) (arg6 : Memref sig .tc .hbm S1728x2560 .i8) (harg6 : arg6.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole) (arg21 : DmaSems sig S3) (X_arg0 : BufTy.Contents (Elt F) arg0.view.ty) (X_arg1 : BufTy.Contents (Elt F) arg1.view.ty) (f : BufTy.Contents (Elt F) arg19.view.ty) :
    arg19.view.writes (Elt F) f (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.2
      = arg19.view.writes (Elt F) arg19.view.junk (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.2 :=
  writes_rebase harg19 _ _ _ (View.cover_of_tiledL _ S32x128.size (by sl_kernel_rfl))

/-- The pieces loop `k0_t2` writes to `arg18` cover it, so the contents it had before do not matter. -/
theorem rebase_acts (𝒱 : Variants) (c : Dev nD) (bd : Option 𝒱.V) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg4 : Memref sig .tc .hbm S640x6912 .i8) (harg4 : arg4.IsWhole) (arg5 : Memref sig .tc .hbm S640x6912 .i8) (harg5 : arg5.IsWhole) (arg6 : Memref sig .tc .hbm S1728x2560 .i8) (harg6 : arg6.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole) (arg21 : DmaSems sig S3) (v28 : Elt F .f32) (v29 : Elt F .f32) (v31 : FVec F S256x128 .f32) (c0_i32_9 : BitVec 32) (X_arg2 : BufTy.Contents (Elt F) arg2.view.ty) (X_arg13 : BufTy.Contents (Elt F) arg13.view.ty) (X_arg14 : BufTy.Contents (Elt F) arg14.view.ty) (X_arg16 : BufTy.Contents (Elt F) arg16.view.ty) (X_arg19 : BufTy.Contents (Elt F) arg19.view.ty) (init : FVec F S256x128 .f32 × FVec F S256x128 .f32) (f : BufTy.Contents (Elt F) arg18.view.ty) :
    arg18.view.writes (Elt F) f (st_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v28 v29 v31 c0_i32_9 X_arg2 X_arg13 X_arg14 X_arg16 X_arg19 init (Scf.trips k0_t2_loop.lb k0_t2_loop.ub k0_t2_loop.st)).2.2
      = arg18.view.writes (Elt F) arg18.view.junk (st_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v28 v29 v31 c0_i32_9 X_arg2 X_arg13 X_arg14 X_arg16 X_arg19 init (Scf.trips k0_t2_loop.lb k0_t2_loop.ub k0_t2_loop.st)).2.2 :=
  writes_rebase harg18 _ _ _ (View.cover_of_tiledL _ S256x256.size (by sl_kernel_rfl))

/-- The pieces loop `k0_t3` writes to `arg17` cover it, so the contents it had before do not matter. -/
theorem rebase_codes2 (𝒱 : Variants) (c : Dev nD) (bd : Option 𝒱.V) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg4 : Memref sig .tc .hbm S640x6912 .i8) (harg4 : arg4.IsWhole) (arg5 : Memref sig .tc .hbm S640x6912 .i8) (harg5 : arg5.IsWhole) (arg6 : Memref sig .tc .hbm S1728x2560 .i8) (harg6 : arg6.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole) (arg21 : DmaSems sig S3) (v20 : IVec S8x128 32) (v30 : Elt F .f32) (v68 : FVec F S1x256x128 .f32) (X_arg2 : BufTy.Contents (Elt F) arg2.view.ty) (X_arg18 : BufTy.Contents (Elt F) arg18.view.ty) (X_arg20 : BufTy.Contents (Elt F) arg20.view.ty) (f : BufTy.Contents (Elt F) arg17.view.ty) :
    arg17.view.writes (Elt F) f (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v20 v30 v68 X_arg2 X_arg18 X_arg20 (Scf.trips k0_t3_loop.lb k0_t3_loop.ub k0_t3_loop.st)).2
      = arg17.view.writes (Elt F) arg17.view.junk (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v20 v30 v68 X_arg2 X_arg18 X_arg20 (Scf.trips k0_t3_loop.lb k0_t3_loop.ub k0_t3_loop.st)).2 :=
  writes_rebase harg17 _ _ _ (View.cover_of_tiledL _ S32x128.size (by sl_kernel_rfl))

-- (the run's proof term is large: the definition's epilogue — `abstractNestedProofs` — walks it past the default budget)
set_option backward.proofsInPublic true in
set_option maxHeartbeats 8000000 in
/-- What the body's stores leave in each output's staging memref, as pieces (last first), WITH the
    proof that on whole staging memrefs — the inputs' at their contents, the other outputs' at
    anything, the scratch buffers at anything, the HBM operands it copies whole at their launch contents `fh·`, its DMA cells at zero and the core's `owes`, the body runs to the continuation holding the inputs' as they were,
    a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) :
    Σ' (L4 : List (View.Piece (Elt F) S256x2560 .bf16)), Σ' (L5 : List (View.Piece (Elt F) S256x6912 .bf16)), Σ' (L6 : List (View.Piece (Elt F) S256x2560 .i8)), Σ' (L7 : List (View.Piece (Elt F) S2x128 .f32)), Σ' (L8 : List (View.Piece (Elt F) S256x6912 .i8)), Σ' (L9 : List (View.Piece (Elt F) S2x128 .f32)), { LT7 : List (View.Piece (Elt F) S3x256x128 .f32) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ hbPt0 c hbM0_1 fh1 ∗ hbPt0 c hbM0_2 fh2 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LT7) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_bitnet_ffn arg0 harg0 arg1 harg1 arg2 harg2 arg3 harg3 (Memref.whole main_arg2) (Memref.isWhole_whole _) (Memref.whole main_arg4) (Memref.isWhole_whole _) (Memref.whole main_arg7) (Memref.isWhole_whole _) arg7 harg7 arg8 harg8 arg9 harg9 arg10 harg10 arg11 harg11 arg12 harg12 arg13 harg13 arg14 harg14 arg15 harg15 arg16 harg16 arg17 harg17 arg18 harg18 arg19 harg19 arg20 harg20 cc0_scratch8) K } := by
  refine ⟨?_, ?_, ?_, ?_, ?_, ?_, ?_, fun W K => ?run⟩
  case run =>
    simp only [cc0_bitnet_ffn_eq_skeleton]; unfold cc0_bitnet_ffn_skel
    simp only [k0_part158_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hh0, Hh1, Hh2, HW, Hk⟩
    obtain rfl := harg0.eq_unread hf0; obtain rfl := harg1.eq_unread hf1; obtain rfl := harg2.eq_unread hf2; obtain rfl := harg3.eq_unread hf3
    have hrd0 : ∀ (𝒱 : Variants) (c : Dev nD) (bd : Option 𝒱.V) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg4 : Memref sig .tc .hbm S640x6912 .i8) (harg4 : arg4.IsWhole) (arg5 : Memref sig .tc .hbm S640x6912 .i8) (harg5 : arg5.IsWhole) (arg6 : Memref sig .tc .hbm S1728x2560 .i8) (harg6 : arg6.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole) (arg21 : DmaSems sig S3) (X_arg0 : BufTy.Contents (Elt F) arg0.view.ty) (X_arg1 : BufTy.Contents (Elt F) arg1.view.ty) (hrdF : BufTy.Contents (Elt F) arg19.view.ty) (hrdB : LoadRect S256x128), arg19.view.readAt (Elt F) hrdB (arg19.view.writes (Elt F) hrdF (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.2) = arg19.view.readCov (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.2 hrdB := fun 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 hrdF hrdB => View.readAt_writes_of_cover _ hrdF _ hrdB (fun hrdJ => View.cover_of_tiledL (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.2 S32x128.size (by sl_kernel_rfl) (hrdB.idx hrdJ))
    set_option sl_exec.stopBefore "k0_part159" in sl_exec
    rw [rebase_codes (f := fs3), rebase_scales (f := fs6)]
    simp only [k0_part159_eq_skeleton]
    set_option sl_exec.stopBefore "k0_part160" in sl_exec
    rw [rebase_acts (f := fs5)]
    simp only [k0_part160_eq_skeleton]
    sl_exec
    sl_step
    rw [rebase_codes2 (f := fs4)]
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]; · iexists _; iexact HS7
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW

end Cert.Kernel.Gen

end
-- ==== Proof.FrameK.lean ====
/- A copy of the generated module `Gen/Kernel/Frame.lean` on the copy `RunAK`. -/
module

public import proofs.«01_k».proof.Proof.RunAK
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 4 tile its block (10 stores of `S256x256`, checked by the kernel's evaluation: Lib/Ring.lean `Piece.tiledL`, linear in the pieces, through a loop's `@[irreducible]` trip theorem too), so they cover it. -/
theorem cover0_A_4 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S256x2560.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).1 S256x256.size (by sl_kernel_rfl) y

/-- What the run leaves in output 4's staging buffer: its pieces read back over junk. -/
def out0_A_4 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S256x2560 .bf16 :=
  VO0_4.read (Elt F) (VO0_4.writes (Elt F) VO0_4.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).1)

/-- The run's pieces for output 5 tile its block (27 stores of `S256x256`, checked by the kernel's evaluation: Lib/Ring.lean `Piece.tiledL`, linear in the pieces, through a loop's `@[irreducible]` trip theorem too), so they cover it. -/
theorem cover0_A_5 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S256x6912.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.1 S256x256.size (by sl_kernel_rfl) y

/-- What the run leaves in output 5's staging buffer: its pieces read back over junk. -/
def out0_A_5 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S256x6912 .bf16 :=
  VO0_5.read (Elt F) (VO0_5.writes (Elt F) VO0_5.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.1)

/-- The run's pieces for output 6 tile its block (160 stores of `S32x128`, checked by the kernel's evaluation: Lib/Ring.lean `Piece.tiledL`, linear in the pieces, through a loop's `@[irreducible]` trip theorem too), so they cover it. -/
theorem cover0_A_6 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S256x2560.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.1 S32x128.size (by sl_kernel_rfl) y

/-- What the run leaves in output 6's staging buffer: its pieces read back over junk. -/
def out0_A_6 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S256x2560 .i8 :=
  VO0_6.read (Elt F) (VO0_6.writes (Elt F) VO0_6.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.1)

/-- The run's pieces for output 7 tile its block (2 stores of `S1x128`, checked by the kernel's evaluation: Lib/Ring.lean `Piece.tiledL`, linear in the pieces, through a loop's `@[irreducible]` trip theorem too), so they cover it. -/
theorem cover0_A_7 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S2x128.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.1 S1x128.size (by sl_kernel_rfl) y

/-- What the run leaves in output 7's staging buffer: its pieces read back over junk. -/
def out0_A_7 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S2x128 .f32 :=
  VO0_7.read (Elt F) (VO0_7.writes (Elt F) VO0_7.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.1)

/-- The run's pieces for output 8 tile its block (432 stores of `S32x128`, checked by the kernel's evaluation: Lib/Ring.lean `Piece.tiledL`, linear in the pieces, through a loop's `@[irreducible]` trip theorem too), so they cover it. -/
theorem cover0_A_8 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S256x6912.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.1 S32x128.size (by sl_kernel_rfl) y

/-- What the run leaves in output 8's staging buffer: its pieces read back over junk. -/
def out0_A_8 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S256x6912 .i8 :=
  VO0_8.read (Elt F) (VO0_8.writes (Elt F) VO0_8.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.1)

/-- The run's pieces for output 9 tile its block (2 stores of `S1x128`, checked by the kernel's evaluation: Lib/Ring.lean `Piece.tiledL`, linear in the pieces, through a loop's `@[irreducible]` trip theorem too), so they cover it. -/
theorem cover0_A_9 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S2x128.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.2.1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.2.1 S1x128.size (by sl_kernel_rfl) y

/-- What the run leaves in output 9's staging buffer: its pieces read back over junk. -/
def out0_A_9 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S2x128 .f32 :=
  VO0_9.read (Elt F) (VO0_9.writes (Elt F) VO0_9.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x2560 .bf16 × Vec F S256x6912 .bf16 × Vec F S256x2560 .i8 × Vec F S2x128 .f32 × Vec F S256x6912 .i8 × Vec F S2x128 .f32 :=
  (out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7), out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7), out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7), out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7), out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7), out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7))

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2.1
    | ⟨7, _⟩ => (outsAt0 m c t).2.2.2.1
    | ⟨8, _⟩ => (outsAt0 m c t).2.2.2.2.1
    | ⟨9, _⟩ => (outsAt0 m c t).2.2.2.2.2
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2.1 := by dsimp only [dats]
theorem after0_7 (c : Dev nD) (t : Fin cfg0.N) : (dats m 0 c).after 7 t = (outsAt0 m c t).2.2.2.1 := by dsimp only [dats]
theorem after0_8 (c : Dev nD) (t : Fin cfg0.N) : (dats m 0 c).after 8 t = (outsAt0 m c t).2.2.2.2.1 := by dsimp only [dats]
theorem after0_9 (c : Dev nD) (t : Fin cfg0.N) : (dats m 0 c).after 9 t = (outsAt0 m c t).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    after0_0, after0_1, after0_2, after0_3, after0_4, after0_5, after0_6, after0_7, after0_8, after0_9]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_4 out0_A_5 out0_A_6 out0_A_7 out0_A_8 out0_A_9; (try dsimp only)
  iintro ⟨⟨⟨HS0, HS1, HS2, HS3, HS4, HS5, HS6, HS7⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c _ _ _ _ _ _ _ _ _ _ _ _ _ _ _ _ _ _ _ _ _ _ _ _ _ _ _ _ _ _ _ _ _ _ _ _ (iblk m c 0 t) (iblk m c 1 t) (iblk m c 2 t) (iblk m c 3 t) (V m c main_arg2) (V m c main_arg4) (V m c main_arg7)).2.2.2.2.2.2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, ⟨%e4, H4⟩, ⟨%e5, H5⟩, ⟨%e6, H6⟩, ⟨%e7, H7⟩, ⟨%e8, H8⟩, ⟨%e9, H9⟩, HS0, HS1, HS2, HS3, HS4, HS5, HS6, ⟨%fT7, HS7⟩, Hq0, Hq1, Hq2, Hh0, Hh1, Hh2, ⟨%W', HW'⟩⟩
  isplitl [HS0 HS1 HS2 HS3 HS4 HS5 HS6 HS7 Hg Hq0 Hq1 Hq2 Hh0 Hh1 Hh2]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexists _; unfold owns; iexists _; isplitr
      swap; · iexact HS7
      ipureintro; rfl
    isplitl [Hg]
    · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Gen

end
-- ==== Proof.RunA.lean ====
/- A copy of the generated module `Gen/KernelIdeal/Frame/RunA.lean`, with a larger heartbeat budget for its one definition (the generated budget is too small for this kernel). -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Writes that cover a whole buffer leave the same contents whatever it held before. -/
theorem writes_rebase {sp : Space} {s : Shape} {e : EltTy} {m : Memref sig .tc sp s e} (h : m.IsWhole) (f g : m.view.ty.Contents (Elt F))
    (L : List (View.Piece (Elt F) s e)) (hL : ∀ y, ∃ p ∈ L, y ∈ p.1.set) :
    m.view.writes (Elt F) f L = m.view.writes (Elt F) g L :=
  (h.eq_unread (View.read_writes_of_cover _ f _ g L hL)).trans (h.eq_unread rfl).symm

/-- The pieces loop `k0_t1` writes to `arg16` cover it, so the contents it had before do not matter. -/
theorem rebase_codes (𝒱 : Variants) (c : Dev nD) (bd : Option 𝒱.V) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg4 : Memref sig .tc .hbm S640x6912 .i8) (harg4 : arg4.IsWhole) (arg5 : Memref sig .tc .hbm S640x6912 .i8) (harg5 : arg5.IsWhole) (arg6 : Memref sig .tc .hbm S1728x2560 .i8) (harg6 : arg6.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole) (arg21 : DmaSems sig S3) (X_arg0 : BufTy.Contents (Elt F) arg0.view.ty) (X_arg1 : BufTy.Contents (Elt F) arg1.view.ty) (f : BufTy.Contents (Elt F) arg16.view.ty) :
    arg16.view.writes (Elt F) f (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.1
      = arg16.view.writes (Elt F) arg16.view.junk (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.1 :=
  writes_rebase harg16 _ _ _ (View.cover_of_tiledL _ S32x128.size (by sl_kernel_rfl))

/-- The pieces loop `k0_t1` writes to `arg19` cover it, so the contents it had before do not matter. -/
theorem rebase_scales (𝒱 : Variants) (c : Dev nD) (bd : Option 𝒱.V) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg4 : Memref sig .tc .hbm S640x6912 .i8) (harg4 : arg4.IsWhole) (arg5 : Memref sig .tc .hbm S640x6912 .i8) (harg5 : arg5.IsWhole) (arg6 : Memref sig .tc .hbm S1728x2560 .i8) (harg6 : arg6.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole) (arg21 : DmaSems sig S3) (X_arg0 : BufTy.Contents (Elt F) arg0.view.ty) (X_arg1 : BufTy.Contents (Elt F) arg1.view.ty) (f : BufTy.Contents (Elt F) arg19.view.ty) :
    arg19.view.writes (Elt F) f (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.2
      = arg19.view.writes (Elt F) arg19.view.junk (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.2 :=
  writes_rebase harg19 _ _ _ (View.cover_of_tiledL _ S32x128.size (by sl_kernel_rfl))

/-- The pieces loop `k0_t2` writes to `arg18` cover it, so the contents it had before do not matter. -/
theorem rebase_acts (𝒱 : Variants) (c : Dev nD) (bd : Option 𝒱.V) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg4 : Memref sig .tc .hbm S640x6912 .i8) (harg4 : arg4.IsWhole) (arg5 : Memref sig .tc .hbm S640x6912 .i8) (harg5 : arg5.IsWhole) (arg6 : Memref sig .tc .hbm S1728x2560 .i8) (harg6 : arg6.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole) (arg21 : DmaSems sig S3) (v28 : Elt F .f32) (v29 : Elt F .f32) (v31 : FVec F S256x128 .f32) (c0_i32_9 : BitVec 32) (X_arg2 : BufTy.Contents (Elt F) arg2.view.ty) (X_arg13 : BufTy.Contents (Elt F) arg13.view.ty) (X_arg14 : BufTy.Contents (Elt F) arg14.view.ty) (X_arg16 : BufTy.Contents (Elt F) arg16.view.ty) (X_arg19 : BufTy.Contents (Elt F) arg19.view.ty) (init : FVec F S256x128 .f32 × FVec F S256x128 .f32) (f : BufTy.Contents (Elt F) arg18.view.ty) :
    arg18.view.writes (Elt F) f (st_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v28 v29 v31 c0_i32_9 X_arg2 X_arg13 X_arg14 X_arg16 X_arg19 init (Scf.trips k0_t2_loop.lb k0_t2_loop.ub k0_t2_loop.st)).2.2
      = arg18.view.writes (Elt F) arg18.view.junk (st_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v28 v29 v31 c0_i32_9 X_arg2 X_arg13 X_arg14 X_arg16 X_arg19 init (Scf.trips k0_t2_loop.lb k0_t2_loop.ub k0_t2_loop.st)).2.2 :=
  writes_rebase harg18 _ _ _ (View.cover_of_tiledL _ S256x256.size (by sl_kernel_rfl))

/-- The pieces loop `k0_t3` writes to `arg17` cover it, so the contents it had before do not matter. -/
theorem rebase_codes2 (𝒱 : Variants) (c : Dev nD) (bd : Option 𝒱.V) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg4 : Memref sig .tc .hbm S640x6912 .i8) (harg4 : arg4.IsWhole) (arg5 : Memref sig .tc .hbm S640x6912 .i8) (harg5 : arg5.IsWhole) (arg6 : Memref sig .tc .hbm S1728x2560 .i8) (harg6 : arg6.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole) (arg21 : DmaSems sig S3) (v20 : IVec S8x128 32) (v30 : Elt F .f32) (v68 : FVec F S1x256x128 .f32) (X_arg2 : BufTy.Contents (Elt F) arg2.view.ty) (X_arg18 : BufTy.Contents (Elt F) arg18.view.ty) (X_arg20 : BufTy.Contents (Elt F) arg20.view.ty) (f : BufTy.Contents (Elt F) arg17.view.ty) :
    arg17.view.writes (Elt F) f (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v20 v30 v68 X_arg2 X_arg18 X_arg20 (Scf.trips k0_t3_loop.lb k0_t3_loop.ub k0_t3_loop.st)).2
      = arg17.view.writes (Elt F) arg17.view.junk (pb_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 v20 v30 v68 X_arg2 X_arg18 X_arg20 (Scf.trips k0_t3_loop.lb k0_t3_loop.ub k0_t3_loop.st)).2 :=
  writes_rebase harg17 _ _ _ (View.cover_of_tiledL _ S32x128.size (by sl_kernel_rfl))

-- (the run's proof term is large: the definition's epilogue — `abstractNestedProofs` — walks it past the default budget)
set_option backward.proofsInPublic true in
set_option maxHeartbeats 8000000 in
/-- What the body's stores leave in each output's staging memref, as pieces (last first), WITH the
    proof that on whole staging memrefs — the inputs' at their contents, the other outputs' at
    anything, the scratch buffers at anything, the HBM operands it copies whole at their launch contents `fh·`, its DMA cells at zero and the core's `owes`, the body runs to the continuation holding the inputs' as they were,
    a scratch it stored into and does not carry with its pieces (`LT·`) written over some contents, the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) :
    Σ' (L4 : List (View.Piece (Elt F) S256x2560 .bf16)), Σ' (L5 : List (View.Piece (Elt F) S256x6912 .bf16)), Σ' (L6 : List (View.Piece (Elt F) S256x2560 .i8)), Σ' (L7 : List (View.Piece (Elt F) S2x128 .f32)), Σ' (L8 : List (View.Piece (Elt F) S256x6912 .i8)), Σ' (L9 : List (View.Piece (Elt F) S2x128 .f32)), { LT7 : List (View.Piece (Elt F) S3x256x128 .f32) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ hbPt0 c hbM0_1 fh1 ∗ hbPt0 c hbM0_2 fh2 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ f, arg20.view.loc (c : Thread nD τ) ↦[arg20.view.set]{fullShare} arg20.view.writes (Elt F) f LT7) ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_bitnet_ffn arg0 harg0 arg1 harg1 arg2 harg2 arg3 harg3 (Memref.whole main_arg2) (Memref.isWhole_whole _) (Memref.whole main_arg4) (Memref.isWhole_whole _) (Memref.whole main_arg7) (Memref.isWhole_whole _) arg7 harg7 arg8 harg8 arg9 harg9 arg10 harg10 arg11 harg11 arg12 harg12 arg13 harg13 arg14 harg14 arg15 harg15 arg16 harg16 arg17 harg17 arg18 harg18 arg19 harg19 arg20 harg20 cc0_scratch8) K } := by
  refine ⟨?_, ?_, ?_, ?_, ?_, ?_, ?_, fun W K => ?run⟩
  case run =>
    simp only [cc0_bitnet_ffn_eq_skeleton]; unfold cc0_bitnet_ffn_skel
    simp only [k0_part158_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hh0, Hh1, Hh2, HW, Hk⟩
    obtain rfl := harg0.eq_unread hf0; obtain rfl := harg1.eq_unread hf1; obtain rfl := harg2.eq_unread hf2; obtain rfl := harg3.eq_unread hf3
    have hrd0 : ∀ (𝒱 : Variants) (c : Dev nD) (bd : Option 𝒱.V) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg4 : Memref sig .tc .hbm S640x6912 .i8) (harg4 : arg4.IsWhole) (arg5 : Memref sig .tc .hbm S640x6912 .i8) (harg5 : arg5.IsWhole) (arg6 : Memref sig .tc .hbm S1728x2560 .i8) (harg6 : arg6.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole) (arg21 : DmaSems sig S3) (X_arg0 : BufTy.Contents (Elt F) arg0.view.ty) (X_arg1 : BufTy.Contents (Elt F) arg1.view.ty) (hrdF : BufTy.Contents (Elt F) arg19.view.ty) (hrdB : LoadRect S256x128), arg19.view.readAt (Elt F) hrdB (arg19.view.writes (Elt F) hrdF (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.2) = arg19.view.readCov (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.2 hrdB := fun 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 hrdF hrdB => View.readAt_writes_of_cover _ hrdF _ hrdB (fun hrdJ => View.cover_of_tiledL (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 X_arg0 X_arg1 (Scf.trips k0_t1_loop.lb k0_t1_loop.ub k0_t1_loop.st)).2.2 S32x128.size (by sl_kernel_rfl) (hrdB.idx hrdJ))
    set_option sl_exec.stopBefore "k0_part159" in sl_exec
    rw [rebase_codes (f := fs3), rebase_scales (f := fs6)]
    simp only [k0_part159_eq_skeleton]
    set_option sl_exec.stopBefore "k0_part160" in sl_exec
    rw [rebase_acts (f := fs5)]
    simp only [k0_part160_eq_skeleton]
    sl_exec
    sl_step
    rw [rebase_codes2 (f := fs4)]
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]; · iexists _; iexact HS7
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    iexists _; iexact HW

end Cert.KernelIdeal.Gen

end
-- ==== Proof.FrameI.lean ====
/- A copy of the generated module `Gen/KernelIdeal/Frame.lean`, over the run of `Proof/RunA.lean`. -/
module

public import proofs.«01_k».proof.Proof.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 4 tile its block (10 stores of `S256x256`, checked by the kernel's evaluation: Lib/Ring.lean `Piece.tiledL`, linear in the pieces, through a loop's `@[irreducible]` trip theorem too), so they cover it. -/
theorem cover0_A_4 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S256x2560.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).1 S256x256.size (by sl_kernel_rfl) y

/-- What the run leaves in output 4's staging buffer: its pieces read back over junk. -/
def out0_A_4 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S256x2560 .bf16 :=
  VO0_4.read (Elt F) (VO0_4.writes (Elt F) VO0_4.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).1)

/-- The run's pieces for output 5 tile its block (27 stores of `S256x256`, checked by the kernel's evaluation: Lib/Ring.lean `Piece.tiledL`, linear in the pieces, through a loop's `@[irreducible]` trip theorem too), so they cover it. -/
theorem cover0_A_5 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S256x6912.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.1 S256x256.size (by sl_kernel_rfl) y

/-- What the run leaves in output 5's staging buffer: its pieces read back over junk. -/
def out0_A_5 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S256x6912 .bf16 :=
  VO0_5.read (Elt F) (VO0_5.writes (Elt F) VO0_5.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.1)

/-- The run's pieces for output 6 tile its block (160 stores of `S32x128`, checked by the kernel's evaluation: Lib/Ring.lean `Piece.tiledL`, linear in the pieces, through a loop's `@[irreducible]` trip theorem too), so they cover it. -/
theorem cover0_A_6 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S256x2560.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.1 S32x128.size (by sl_kernel_rfl) y

/-- What the run leaves in output 6's staging buffer: its pieces read back over junk. -/
def out0_A_6 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S256x2560 .i8 :=
  VO0_6.read (Elt F) (VO0_6.writes (Elt F) VO0_6.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.1)

/-- The run's pieces for output 7 tile its block (2 stores of `S1x128`, checked by the kernel's evaluation: Lib/Ring.lean `Piece.tiledL`, linear in the pieces, through a loop's `@[irreducible]` trip theorem too), so they cover it. -/
theorem cover0_A_7 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S2x128.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.1 S1x128.size (by sl_kernel_rfl) y

/-- What the run leaves in output 7's staging buffer: its pieces read back over junk. -/
def out0_A_7 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S2x128 .f32 :=
  VO0_7.read (Elt F) (VO0_7.writes (Elt F) VO0_7.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.1)

/-- The run's pieces for output 8 tile its block (432 stores of `S32x128`, checked by the kernel's evaluation: Lib/Ring.lean `Piece.tiledL`, linear in the pieces, through a loop's `@[irreducible]` trip theorem too), so they cover it. -/
theorem cover0_A_8 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S256x6912.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.1 S32x128.size (by sl_kernel_rfl) y

/-- What the run leaves in output 8's staging buffer: its pieces read back over junk. -/
def out0_A_8 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S256x6912 .i8 :=
  VO0_8.read (Elt F) (VO0_8.writes (Elt F) VO0_8.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.1)

/-- The run's pieces for output 9 tile its block (2 stores of `S1x128`, checked by the kernel's evaluation: Lib/Ring.lean `Piece.tiledL`, linear in the pieces, through a loop's `@[irreducible]` trip theorem too), so they cover it. -/
theorem cover0_A_9 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) (y : S2x128.Idx) :
    ∃ pc ∈ (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.2.1, y ∈ pc.1.set :=
  View.cover_of_tiledL (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.2.1 S1x128.size (by sl_kernel_rfl) y

/-- What the run leaves in output 9's staging buffer: its pieces read back over junk. -/
def out0_A_9 (c : Dev nD) (arg0 : Memref sig .tc .vmem S256x2560 .bf16) (harg0 : arg0.IsWhole) (arg1 : Memref sig .tc .vmem S1x2560 .f32) (harg1 : arg1.IsWhole) (arg2 : Memref sig .tc .vmem S1x6912 .f32) (harg2 : arg2.IsWhole) (arg3 : Memref sig .tc .smem S3 .f32) (harg3 : arg3.IsWhole) (arg7 : Memref sig .tc .vmem S256x2560 .bf16) (harg7 : arg7.IsWhole) (arg8 : Memref sig .tc .vmem S256x6912 .bf16) (harg8 : arg8.IsWhole) (arg9 : Memref sig .tc .vmem S256x2560 .i8) (harg9 : arg9.IsWhole) (arg10 : Memref sig .tc .vmem S2x128 .f32) (harg10 : arg10.IsWhole) (arg11 : Memref sig .tc .vmem S256x6912 .i8) (harg11 : arg11.IsWhole) (arg12 : Memref sig .tc .vmem S2x128 .f32) (harg12 : arg12.IsWhole) (arg13 : Memref sig .tc .vmem S640x6912 .i8) (harg13 : arg13.IsWhole) (arg14 : Memref sig .tc .vmem S640x6912 .i8) (harg14 : arg14.IsWhole) (arg15 : Memref sig .tc .vmem S1728x2560 .i8) (harg15 : arg15.IsWhole) (arg16 : Memref sig .tc .vmem S256x2560 .bf16) (harg16 : arg16.IsWhole) (arg17 : Memref sig .tc .vmem S256x6912 .bf16) (harg17 : arg17.IsWhole) (arg18 : Memref sig .tc .vmem S256x6912 .f32) (harg18 : arg18.IsWhole) (arg19 : Memref sig .tc .vmem S256x128 .f32) (harg19 : arg19.IsWhole) (arg20 : Memref sig .tc .vmem S3x256x128 .f32) (harg20 : arg20.IsWhole)
    (x0 : Vec F S256x2560 .bf16) (x1 : Vec F S1x2560 .f32) (x2 : Vec F S1x6912 .f32) (x3 : Vec F S3 .f32) (fh0 : HbBuf0 (F := F) c hbM0_0) (fh1 : HbBuf0 (F := F) c hbM0_1) (fh2 : HbBuf0 (F := F) c hbM0_2) : Vec F S2x128 .f32 :=
  VO0_9.read (Elt F) (VO0_9.writes (Elt F) VO0_9.junk (kernelRun0_A c arg0 harg0 arg1 harg1 arg2 harg2 arg3 harg3 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 fh0 fh1 fh2).2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x2560 .bf16 × Vec F S256x6912 .bf16 × Vec F S256x2560 .i8 × Vec F S2x128 .f32 × Vec F S256x6912 .i8 × Vec F S2x128 .f32 :=
  (out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7), out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7), out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7), out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7), out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7), out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7))

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2.1
    | ⟨7, _⟩ => (outsAt0 m c t).2.2.2.1
    | ⟨8, _⟩ => (outsAt0 m c t).2.2.2.2.1
    | ⟨9, _⟩ => (outsAt0 m c t).2.2.2.2.2
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2.1 := by dsimp only [dats]
theorem after0_7 (c : Dev nD) (t : Fin cfg0.N) : (dats m 0 c).after 7 t = (outsAt0 m c t).2.2.2.1 := by dsimp only [dats]
theorem after0_8 (c : Dev nD) (t : Fin cfg0.N) : (dats m 0 c).after 8 t = (outsAt0 m c t).2.2.2.2.1 := by dsimp only [dats]
theorem after0_9 (c : Dev nD) (t : Fin cfg0.N) : (dats m 0 c).after 9 t = (outsAt0 m c t).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    after0_0, after0_1, after0_2, after0_3, after0_4, after0_5, after0_6, after0_7, after0_8, after0_9]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_4 out0_A_5 out0_A_6 out0_A_7 out0_A_8 out0_A_9; (try dsimp only)
  iintro ⟨⟨⟨HS0, HS1, HS2, HS3, HS4, HS5, HS6, HS7⟩, Hg, ⟨Hq0, Hq1, Hq2⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c _ _ _ _ _ _ _ _ _ _ _ _ _ _ _ _ _ _ _ _ _ _ _ _ _ _ _ _ _ _ _ _ _ _ _ _ (iblk m c 0 t) (iblk m c 1 t) (iblk m c 2 t) (iblk m c 3 t) (V m c main_arg2) (V m c main_arg4) (V m c main_arg7)).2.2.2.2.2.2.2 W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [HW]; · iexact HW
  iintro ⟨H0, H1, H2, H3, ⟨%e4, H4⟩, ⟨%e5, H5⟩, ⟨%e6, H6⟩, ⟨%e7, H7⟩, ⟨%e8, H8⟩, ⟨%e9, H9⟩, HS0, HS1, HS2, HS3, HS4, HS5, HS6, ⟨%fT7, HS7⟩, Hq0, Hq1, Hq2, Hh0, Hh1, Hh2, ⟨%W', HW'⟩⟩
  isplitl [HS0 HS1 HS2 HS3 HS4 HS5 HS6 HS7 Hg Hq0 Hq1 Hq2 Hh0 Hh1 Hh2]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexists _; unfold owns; iexists _; isplitr
      swap; · iexact HS7
      ipureintro; rfl
    isplitl [Hg]
    · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.ValueI.lean ====
/- A copy of the generated module `Gen/KernelIdeal/Value.lean`, over the frame of `Proof/FrameI.lean`. -/
module

public import proofs.«01_k».proof.Proof.FrameI
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin cfg0.N) :
    (dats m 0 c).flushed 4 t = (cfg0.win 4).cut (grid0.coords t) (out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)) := by
  simp only [flushed4, outsAt0]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S256x2560.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — the kernel's one case, `Gen.outsAt0` by definition. -/
theorem flushed5_A (c : Dev nD) (t : Fin cfg0.N) :
    (dats m 0 c).flushed 5 t = (cfg0.win 5).cut (grid0.coords t) (out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)) := by
  simp only [flushed5, outsAt0]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S256x6912.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t).2.2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)) := by
  simp only [flushed6, outsAt0]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S256x2560.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 3), read through the window's block. -/
theorem flushed7 (c : Dev nD) (t : Fin cfg0.N) :
    (dats m 0 c).flushed 7 t = (cfg0.win 7).cut (grid0.coords t) ((outsAt0 m c t).2.2.2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — the kernel's one case, `Gen.outsAt0` by definition. -/
theorem flushed7_A (c : Dev nD) (t : Fin cfg0.N) :
    (dats m 0 c).flushed 7 t = (cfg0.win 7).cut (grid0.coords t) (out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)) := by
  simp only [flushed7, outsAt0]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 4), read through the window's block. -/
theorem flushed8 (c : Dev nD) (t : Fin cfg0.N) :
    (dats m 0 c).flushed 8 t = (cfg0.win 8).cut (grid0.coords t) ((outsAt0 m c t).2.2.2.2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — the kernel's one case, `Gen.outsAt0` by definition. -/
theorem flushed8_A (c : Dev nD) (t : Fin cfg0.N) :
    (dats m 0 c).flushed 8 t = (cfg0.win 8).cut (grid0.coords t) (out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)) := by
  simp only [flushed8, outsAt0]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S256x6912.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 5), read through the window's block. -/
theorem flushed9 (c : Dev nD) (t : Fin cfg0.N) :
    (dats m 0 c).flushed 9 t = (cfg0.win 9).cut (grid0.coords t) ((outsAt0 m c t).2.2.2.2.2) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — the kernel's one case, `Gen.outsAt0` by definition. -/
theorem flushed9_A (c : Dev nD) (t : Fin cfg0.N) :
    (dats m 0 c).flushed 9 t = (cfg0.win 9).cut (grid0.coords t) (out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)) := by
  simp only [flushed9, outsAt0]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S2x128.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v7_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v7_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v7_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v7_3) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v7_4) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v7_5) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v7_0) = (dats m 0 c).arrAt 4 cfg0.N
      ∧ r.2.mem ((c : Thread nD τ).loc main_v7_1) = (dats m 0 c).arrAt 5 cfg0.N
      ∧ r.2.mem ((c : Thread nD τ).loc main_v7_2) = (dats m 0 c).arrAt 6 cfg0.N
      ∧ r.2.mem ((c : Thread nD τ).loc main_v7_3) = (dats m 0 c).arrAt 7 cfg0.N
      ∧ r.2.mem ((c : Thread nD τ).loc main_v7_4) = (dats m 0 c).arrAt 8 cfg0.N
      ∧ r.2.mem ((c : Thread nD τ).loc main_v7_5) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post4 m r h c,
      post5 m r h c,
      post6 m r h c,
      post7 m r h c,
      post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.KernelIdeal.Value

end
-- ==== Proof.Tiles.lean ====
/- The kernel's arithmetic on one block, written once per repeated step: what a row block of the normalisation
   writes, what a column tile of a projection multiplies, in terms of the blocks the steps load. -/
module

public import proofs.«01_k».proof.Proof.Gen.KernelIdeal.Loops
public import Idealize.ShloMosaic.PureOps.Ideal

@[expose] public section

noncomputable section

namespace Cert.KernelIdeal.Gen

open Idealize.ShloMosaic Idealize.ShloMosaic.TcCoe

/-- `f` applied for the first `n` of `N` indices in turn, the lowest first. -/
def foldUp {β : Type} {N : Nat} (f : β → Fin N → β) (b : β) : (n : Nat) → n ≤ N → β
  | 0, _ => b
  | n + 1, h => f (foldUp f b n (Nat.le_of_succ_le h)) ⟨n, h⟩

/-- A block of `x`, at the wider type. -/
def wide (x : Vec Ideal S32x128 .bf16) : FVec Ideal S32x128 .f32 :=
  extf .f32 (shapeCast S32x128 x shapeCasts_S32x128_S32x128) bitsLt_bf16_f32

/-- A row of the gain, repeated down the block. -/
def gain (g : Vec Ideal S1x128 .f32) : FVec Ideal S32x128 .f32 :=
  broadcastTo S32x128 (shapeCast S1x128 g shapeCasts_S1x128_S1x128) broadcasts_S1x128_S32x128

/-- The squares of the first `n` blocks of a row block, added up lane by lane. -/
def sumSq (x : Fin 20 → Vec Ideal S32x128 .bf16) (n : Nat) (h : n ≤ 20) : FVec Ideal S32x128 .f32 :=
  foldUp (fun acc j => addf acc (mulf (wide (x j)) (wide (x j)))) (broadcast S32x128 (Scalar.ofBits .f32 0x00000000#32)) n h

/-- The largest absolute value of `x · gain` over the first `n` blocks, lane by lane. -/
def maxAbs (x : Fin 20 → Vec Ideal S32x128 .bf16) (g : Fin 20 → Vec Ideal S1x128 .f32) (n : Nat) (h : n ≤ 20) :
    FVec Ideal S32x128 .f32 :=
  foldUp (fun acc j => maximumf acc (absf (mulf (wide (x j)) (gain (g j)))))
    (broadcast S32x128 (Scalar.ofBits .f32 0x00000000#32)) n h

/-- The reciprocal root mean square of each row of the block. -/
def rowNorm (x : Fin 20 → Vec Ideal S32x128 .bf16) : FVec Ideal S32x1 .f32 := k0_pay32 (sumSq x 20 (le_refl _))

/-- The quantisation scale of each row of the block. -/
def rowScale (x : Fin 20 → Vec Ideal S32x128 .bf16) (g : Fin 20 → Vec Ideal S1x128 .f32) : FVec Ideal S32x1 .f32 :=
  k0_pay33 (maxAbs x g 19 (by decide)) (wide (x 19)) (sumSq x 20 (le_refl _)) (g 19)

/-- Block `j`, normalised and divided by the scale. -/
def scaled (x : Fin 20 → Vec Ideal S32x128 .bf16) (g : Fin 20 → Vec Ideal S1x128 .f32) (j : Fin 20) :
    FVec Ideal S32x128 .f32 :=
  k0_pay36 (maxAbs x g 19 (by decide)) (wide (x 19)) (sumSq x 20 (le_refl _)) (g 19) (x j) (g j)

/-- The scales, repeated along the lanes. -/
def scaleLanes (x : Fin 20 → Vec Ideal S32x128 .bf16) (g : Fin 20 → Vec Ideal S1x128 .f32) : FVec Ideal S32x128 .f32 :=
  k0_pay35 (maxAbs x g 19 (by decide)) (wide (x 19)) (sumSq x 20 (le_refl _)) (g 19)

/-- The second quantisation's block: `a · r₂ · gain · (1 / s)`. -/
def scaled2 (a : Vec Ideal S32x128 .f32) (r : Vec Ideal S1x32x128 .f32) (inv : Vec Ideal S1x32x128 .f32)
    (g : Vec Ideal S1x128 .f32) : FVec Ideal S32x128 .f32 :=
  mulf (mulf (mulf a
    (shapeCast S32x128 r shapeCasts_S1x32x128_S32x128)) (gain g)) (shapeCast S32x128 inv shapeCasts_S1x32x128_S32x128)

/-- The packed words of a weight tile with every field's low bit flipped. -/
def words (p : Vec Ideal S32x256 .i8) : IVec S8x256 32 :=
  xori (bitcast S8x256 32 p bitcasts_S32x256_w8_S8x256_w32) (broadcast S8x256 1431655765#32)

/-- The halves of the words, each kept at its sign and top exponent bit, as floats. -/
def halves (w : IVec S8x256 32) : FVec Ideal S16x256 .bf16 :=
  bitcastToFloat .bf16 (bitcast S16x256 16 (andi w (broadcast S8x256 3221274624#32)) bitcasts_S8x256_w32_S16x256_w16)

/-- The words shifted so that field `f` of each half is at its top. -/
def fieldUp (w : IVec S8x256 32) : Fin 8 → IVec S8x256 32
  | 0 => shli w (broadcast S8x256 14#32)
  | 1 => shli w (broadcast S8x256 12#32)
  | 2 => shli w (broadcast S8x256 10#32)
  | 3 => shli w (broadcast S8x256 8#32)
  | 4 => shli w (broadcast S8x256 6#32)
  | 5 => shli w (broadcast S8x256 4#32)
  | 6 => shli w (broadcast S8x256 2#32)
  | 7 => w

/-- One packed tile unpacked: a 32-row tile of bytes is 128 rows of weights, field by field. -/
def unpacked (p : Vec Ideal S32x256 .i8) : FVec Ideal S128x256 .bf16 :=
  concatenate S128x256 0 (List.ofFn fun f : Fin 8 => (⟨S16x256, halves (fieldUp (words p) f)⟩ : (s : Shape) × (s.Idx → Ideal .bf16)))
    concatenates_S16x256_S16x256_S16x256_S16x256_S16x256_S16x256_S16x256_S16x256_S128x256_d0

/-- A column tile of the gate or up weights. -/
def tileIn (p : Fin 20 → Vec Ideal S32x256 .i8) : FVec Ideal S2560x256 .bf16 :=
  concatenate S2560x256 0 (List.ofFn fun j : Fin 20 => (⟨S128x256, unpacked (p j)⟩ : (s : Shape) × (s.Idx → Ideal .bf16)))
    concatenates_S128x256_S128x256_S128x256_S128x256_S128x256_S128x256_S128x256_S128x256_S128x256_S128x256_S128x256_S128x256_S128x256_S128x256_S128x256_S128x256_S128x256_S128x256_S128x256_S128x256_S2560x256_d0

/-- A column tile of a gate or up projection: the codes' products, times the row scales, times the weight scale. -/
def project (q : FVec Ideal S256x2560 .bf16) (p : Fin 20 → Vec Ideal S32x256 .i8) (s : Vec Ideal S256x128 .f32)
    (w : Ideal .f32) : FVec Ideal S256x256 .f32 :=
  k0_pay316 w (k0_pay91 s s)
    (matmul (φ₁ := .bf16) (φ₂ := .bf16) dot_S256x2560_S2560x256_S256x256_1_0_0_1_n_n none q (tileIn p) (constant S256x256 .f32 0x00000000#32))

/-- A column tile of the down weights. -/
def tileDown (p : Fin 54 → Vec Ideal S32x256 .i8) : FVec Ideal S6912x256 .bf16 :=
  concatenate S6912x256 0 (List.ofFn fun j : Fin 54 => (⟨S128x256, unpacked (p j)⟩ : (s : Shape) × (s.Idx → Ideal .bf16)))
    concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S6912x256_d0

/-- A column tile of the result: `x` plus the down projection. -/
def down (w : Ideal .f32) (q : FVec Ideal S256x6912 .bf16) (p : Fin 54 → Vec Ideal S32x256 .i8)
    (s : Vec Ideal S1x256x128 .f32) (x : Vec Ideal S256x256 .bf16) : FVec Ideal S256x256 .bf16 :=
  k0_pay769 w q (tileDown p) s s x

end Cert.KernelIdeal.Gen
-- ==== Proof.Read.lean ====
/- Reading buffers back: entries of blocks that loads take, and the entries of a buffer that a list of stores filled
   when every store's block agrees with one function of the place. -/
module

public import proofs.«01_k».proof.Proof.Tiles
public import Idealize.ShloMosaic.Lib.Pointwise
public import Idealize.ShloMosaic.Lib.Tactic

@[expose] public section

noncomputable section

namespace Cert.KernelIdeal.Gen

open Idealize.ShloMosaic Idealize.ShloMosaic.TcCoe
open Idealize.SL Idealize.SL.Sem

section Places

variable {M N m n : ℕ}

/-- Where a matrix block's entry lies. -/
theorem place2 (off : Fin 2 → ℕ) (inb : ∀ a, off a + (![m, n] : Fin 2 → ℕ) a ≤ (⟨2, ![M, N]⟩ : Shape).size a) (i : Fin m) (l : Fin n)
    (I : Fin M) (J : Fin N) (hI : I.val = off 0 + i.val) (hJ : J.val = off 1 + l.val) :
    (Rect.unit (s := ⟨2, ![M, N]⟩) off ![m, n] inb).idx (ix2 i l) = ix2 I J := by
  funext a
  apply Fin.ext
  match a with
  | ⟨0, _⟩ => show off 0 + 1 * i.val = I.val; omega
  | ⟨1, _⟩ => show off 1 + 1 * l.val = J.val; omega

/-- Where a slab block's entry lies. -/
theorem place3 {K k : ℕ} (off : Fin 3 → ℕ) (inb : ∀ a, off a + (![k, m, n] : Fin 3 → ℕ) a ≤ (⟨3, ![K, M, N]⟩ : Shape).size a)
    (h : Fin k) (i : Fin m) (l : Fin n)
    (H : Fin K) (I : Fin M) (J : Fin N) (hH : H.val = off 0 + h.val) (hI : I.val = off 1 + i.val) (hJ : J.val = off 2 + l.val) :
    (Rect.unit (s := ⟨3, ![K, M, N]⟩) off ![k, m, n] inb).idx (ix3 h i l) = ix3 H I J := by
  funext a
  apply Fin.ext
  match a with
  | ⟨0, _⟩ => show off 0 + 1 * h.val = H.val; omega
  | ⟨1, _⟩ => show off 1 + 1 * i.val = I.val; omega
  | ⟨2, _⟩ => show off 2 + 1 * l.val = J.val; omega

end Places

section Pieces

variable {s : Shape} {e : EltTy}

/-- Every block of the list holds the entries of `G` at its places. -/
def Agree (G : s.Idx → Elt Ideal e) (L : List (View.Piece (Elt Ideal) s e)) : Prop :=
  ∀ p ∈ L, ∀ x : p.1.shape.Idx, p.2 x = G (p.1.emb x)

theorem agree_nil (G : s.Idx → Elt Ideal e) : Agree G [] := fun _ h => absurd h List.not_mem_nil

theorem agree_one (G : s.Idx → Elt Ideal e) (r : Rect s) (w : r.shape.Idx → Elt Ideal e) (h : ∀ x, w x = G (r.emb x)) :
    Agree G [⟨r, w⟩] := fun _ hp => by
  obtain rfl := List.mem_singleton.mp hp
  exact h

theorem agree_append (G : s.Idx → Elt Ideal e) (L L' : List (View.Piece (Elt Ideal) s e)) (h : Agree G L) (h' : Agree G L') :
    Agree G (L ++ L') := fun p hp => (List.mem_append.mp hp).elim (h p) (h' p)

theorem agree_ofFn (G : s.Idx → Elt Ideal e) {n : ℕ} (f : Fin n → View.Piece (Elt Ideal) s e)
    (h : ∀ j, ∀ x : (f j).1.shape.Idx, (f j).2 x = G ((f j).1.emb x)) : Agree G (List.ofFn f).reverse := fun p hp => by
  obtain ⟨j, rfl⟩ := (List.mem_ofFn' f p).mp (List.mem_reverse.mp hp)
  exact h j

/-- A matrix block holds the entries of `G` at its places, stated entry by entry. -/
theorem tile2 {M N m n : ℕ} (G : Fin M → Fin N → Elt Ideal e) (off : Fin 2 → ℕ)
    (inb : ∀ a, off a + (![m, n] : Fin 2 → ℕ) a ≤ (⟨2, ![M, N]⟩ : Shape).size a) (w : (⟨2, ![m, n]⟩ : Shape).Idx → Elt Ideal e)
    (h : ∀ (i : Fin m) (l : Fin n) (I : Fin M) (J : Fin N), I.val = off 0 + i.val → J.val = off 1 + l.val → w (ix2 i l) = G I J)
    (x : (⟨2, ![m, n]⟩ : Shape).Idx) :
    w x = (fun y : (⟨2, ![M, N]⟩ : Shape).Idx => G (y 0) (y 1)) ((Rect.unit (s := ⟨2, ![M, N]⟩) off ![m, n] inb).idx x) := by
  obtain ⟨i, l, rfl⟩ : ∃ (i : Fin m) (l : Fin n), x = ix2 i l := ⟨x 0, x 1, eq_ix2 x⟩
  exact h i l _ _ (by show off 0 + 1 * i.val = _; omega) (by show off 1 + 1 * l.val = _; omega)

/-- The same for a slab block. -/
theorem tile3 {K M N k m n : ℕ} (G : Fin K → Fin M → Fin N → Elt Ideal e) (off : Fin 3 → ℕ)
    (inb : ∀ a, off a + (![k, m, n] : Fin 3 → ℕ) a ≤ (⟨3, ![K, M, N]⟩ : Shape).size a) (w : (⟨3, ![k, m, n]⟩ : Shape).Idx → Elt Ideal e)
    (h : ∀ (o : Fin k) (i : Fin m) (l : Fin n) (O : Fin K) (I : Fin M) (J : Fin N), O.val = off 0 + o.val → I.val = off 1 + i.val →
      J.val = off 2 + l.val → w (ix3 o i l) = G O I J)
    (x : (⟨3, ![k, m, n]⟩ : Shape).Idx) :
    w x = (fun y : (⟨3, ![K, M, N]⟩ : Shape).Idx => G (y 0) (y 1) (y 2)) ((Rect.unit (s := ⟨3, ![K, M, N]⟩) off ![k, m, n] inb).idx x) := by
  obtain ⟨o, i, l, rfl⟩ : ∃ (o : Fin k) (i : Fin m) (l : Fin n), x = ix3 o i l := ⟨x 0, x 1, x 2, eq_ix3 x⟩
  exact h o i l _ _ _ (by show off 0 + 1 * o.val = _; omega) (by show off 1 + 1 * i.val = _; omega) (by show off 2 + 1 * l.val = _; omega)

/-- A buffer filled by blocks that agree with `G` reads as `G` where they lie. -/
theorem filled {sp : Space} {m : Memref sig .tc sp s e} {f : m.view.ty.Contents (Elt Ideal)} (G : s.Idx → Elt Ideal e)
    (L : List (View.Piece (Elt Ideal) s e)) (hL : Agree G L) (y : s.Idx) (hc : ∃ p ∈ L, y ∈ p.1.set) :
    m.view.read (Elt Ideal) (m.view.writes (Elt Ideal) f L) y = G y :=
  View.read_writes_apply_of_pieces _ _ G L hL y hc

/-- A buffer filled whole reads as what filled it. -/
theorem filled_whole {sp : Space} {m : Memref sig .tc sp s e} {f : m.view.ty.Contents (Elt Ideal)} (w : s.Idx → Elt Ideal e) (y : s.Idx) :
    m.view.read (Elt Ideal) (m.view.writes (Elt Ideal) f [⟨Rect.whole s, w⟩]) y = w y := by
  refine filled w _ (agree_one w (Rect.whole s) w fun x => ?_) y ⟨_, List.mem_singleton_self _, ?_⟩
  · rw [Rect.emb_whole_apply]
  · rw [← Rect.map_emb_univ]; exact Finset.mem_map.2 ⟨y, Finset.mem_univ _, Rect.emb_whole_apply s y⟩

/-- The blocks of a loop's trips agree with `G` if each trip's do. -/
theorem agree_trips (G : s.Idx → Elt Ideal e) {N : ℕ} (P : ℕ → List (View.Piece (Elt Ideal) s e))
    (T : Fin N → List (View.Piece (Elt Ideal) s e)) (h0 : P 0 = []) (hs : ∀ k : Fin N, P (k.val + 1) = T k ++ P k.val)
    (hT : ∀ k, Agree G (T k)) : ∀ n ≤ N, Agree G (P n)
  | 0, _ => by rw [h0]; exact agree_nil G
  | n + 1, h => by
    have e := hs ⟨n, h⟩
    rw [show P (n + 1) = _ from e]
    exact agree_append G _ _ (hT _) (agree_trips G P T h0 hs hT n (Nat.le_of_succ_le h))

end Pieces

end Cert.KernelIdeal.Gen
-- ==== Proof.Trip1.lean ====
/- What each trip of the kernel's four loops writes, in terms of the block arithmetic of `Tiles`: the run of a trip
   names its values one by one, and these theorems collect them. -/
module

public import proofs.«01_k».proof.Proof.Tiles
public import Idealize.ShloMosaic.Lib.Tactic
import all proofs.«01_k».proof.Proof.Gen.KernelIdeal.Loops

@[expose] public section

set_option maxRecDepth 100000

noncomputable section

namespace Cert.KernelIdeal.Gen

open Idealize.ShloMosaic Idealize.ShloMosaic.TcCoe Idealize.ShloMosaic.Tactic
open Idealize.SL Idealize.SL.Sem

theorem inb_rows (k : Fin k0_t1_loop.trips) (j : Fin 20) :
    ∀ a, (![k0_off1 k 0, 128 * j.val] : Fin 2 → Nat) a + S32x128.size a ≤ S256x2560.size a := by
  have hk : k.val < 8 := Nat.lt_of_lt_of_le k.isLt k0_t1_abs.2.1
  rw [k0_off1_eq]
  intro a
  match a with
  | ⟨0, _⟩ => show 32 * k.val + 32 ≤ 256; omega
  | ⟨1, _⟩ => show 128 * j.val + 128 ≤ 2560; omega

theorem inb_gain (j : Fin 20) : ∀ a, (![0, 128 * j.val] : Fin 2 → Nat) a + S1x128.size a ≤ S1x2560.size a := by
  intro a
  match a with
  | ⟨0, _⟩ => show 0 + 1 ≤ 1; omega
  | ⟨1, _⟩ => show 128 * j.val + 128 ≤ 2560; omega

variable (𝒱 : Variants) (c : Dev nD) (bd : Option 𝒱.V) (arg0 : Memref sig .tc .vmem S256x2560 .bf16) (harg0 : arg0.IsWhole)
  (arg1 : Memref sig .tc .vmem S1x2560 .f32) (harg1 : arg1.IsWhole) (arg2 : Memref sig .tc .vmem S1x6912 .f32) (harg2
  : arg2.IsWhole) (arg3 : Memref sig .tc .smem S3 .f32) (harg3 : arg3.IsWhole) (arg4 : Memref sig .tc .hbm S640x6912
  .i8) (harg4 : arg4.IsWhole) (arg5 : Memref sig .tc .hbm S640x6912 .i8) (harg5 : arg5.IsWhole) (arg6 : Memref sig .tc
  .hbm S1728x2560 .i8) (harg6 : arg6.IsWhole) (arg7 : Memref sig .tc .vmem S256x2560 .bf16) (harg7 : arg7.IsWhole)
  (arg8 : Memref sig .tc .vmem S256x6912 .bf16) (harg8 : arg8.IsWhole) (arg9 : Memref sig .tc .vmem S256x2560 .i8)
  (harg9 : arg9.IsWhole) (arg10 : Memref sig .tc .vmem S2x128 .f32) (harg10 : arg10.IsWhole) (arg11 : Memref sig .tc
  .vmem S256x6912 .i8) (harg11 : arg11.IsWhole) (arg12 : Memref sig .tc .vmem S2x128 .f32) (harg12 : arg12.IsWhole)
  (arg13 : Memref sig .tc .vmem S640x6912 .i8) (harg13 : arg13.IsWhole) (arg14 : Memref sig .tc .vmem S640x6912 .i8)
  (harg14 : arg14.IsWhole) (arg15 : Memref sig .tc .vmem S1728x2560 .i8) (harg15 : arg15.IsWhole) (arg16 : Memref sig
  .tc .vmem S256x2560 .bf16) (harg16 : arg16.IsWhole) (arg17 : Memref sig .tc .vmem S256x6912 .bf16) (harg17 :
  arg17.IsWhole) (arg18 : Memref sig .tc .vmem S256x6912 .f32) (harg18 : arg18.IsWhole) (arg19 : Memref sig .tc .vmem
  S256x128 .f32) (harg19 : arg19.IsWhole) (arg20 : Memref sig .tc .vmem S3x256x128 .f32) (harg20 : arg20.IsWhole)
  (arg21 : DmaSems sig S3)

/-- The row blocks of `x` that trip `k` of the normalisation loads. -/
def xBlock (arg0 : Memref sig .tc .vmem S256x2560 .bf16) (X : BufTy.Contents (Elt Ideal) arg0.view.ty) (k : Fin k0_t1_loop.trips)
    (j : Fin 20) : Vec Ideal S32x128 .bf16 :=
  View.readAt (Elt Ideal) arg0.view (Rect.unit (s := S256x2560) ![k0_off1 k 0, 128 * j.val] S32x128.size (inb_rows k j)).toLoadRect X

/-- The blocks of the first gain. -/
def gBlock (arg1 : Memref sig .tc .vmem S1x2560 .f32) (X : BufTy.Contents (Elt Ideal) arg1.view.ty)
    (j : Fin 20) : Vec Ideal S1x128 .f32 :=
  View.readAt (Elt Ideal) arg1.view (Rect.unit (s := S1x2560) ![0, 128 * j.val] S1x128.size (inb_gain j)).toLoadRect X

variable (X_arg0 : BufTy.Contents (Elt Ideal) arg0.view.ty) (X_arg1 : BufTy.Contents (Elt Ideal) arg1.view.ty)

/-- Trip `k` of the normalisation writes twenty blocks of codes. -/
theorem trip1_codes (k : Fin k0_t1_loop.trips) :
    (trip_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k).1
      = (List.ofFn fun j : Fin 20 => (⟨Rect.unit (s := S256x2560) ![k0_off1 k 0, 128 * j.val] S32x128.size (inb_rows k j),
          k0_pay37 (scaled (xBlock arg0 X_arg0 k) (gBlock arg1 X_arg1) j)⟩ : View.Piece (Elt Ideal) S256x2560 .i8)).reverse := by
  sl_kernel_rfl

/-- Trip `k` of the normalisation writes twenty blocks of codes in the unpacked weights' row order. -/
theorem trip1_permuted (k : Fin k0_t1_loop.trips) :
    (trip_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k).2.1
      = (List.ofFn fun j : Fin 20 => (⟨Rect.unit (s := S256x2560) ![k0_off1 k 0, 128 * j.val] S32x128.size (inb_rows k j),
          k0_pay38 k0_pay755 (scaled (xBlock arg0 X_arg0 k) (gBlock arg1 X_arg1) j)⟩ : View.Piece (Elt Ideal) S256x2560 .bf16)).reverse := by
  sl_kernel_rfl

/-- Trip `k` of the normalisation writes its rows' scales. -/
theorem trip1_scales (k : Fin k0_t1_loop.trips) :
    (trip_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k).2.2.1
      = [⟨Rect.unit (s := S256x128) (k0_off21 k) S32x128.size (k0_off21_inb k),
          scaleLanes (xBlock arg0 X_arg0 k) (gBlock arg1 X_arg1)⟩] := by
  sl_kernel_rfl

end Cert.KernelIdeal.Gen
-- ==== Proof.Math.lean ====
/- The mathematics of the quantised feed-forward block, row by row over the extended reals: the normalisation, the
   quantiser, the ternary product, and the laws by which a tiled computation of them is the plain one. -/
module

public import Idealize.ShloMosaic.PureOps.Ideal
public import Idealize.ShloMosaic.PureOps.Ideal.Laws

@[expose] public section

noncomputable section

namespace Ffn

open Idealize.ShloMosaic Finset

/-! ## What a row is mapped to -/

/-- The small constant added to a mean square. -/
def eps : EReal := Ideal.ofBits .f32 0x3727C5AC#32

/-- The reciprocal root of the mean square `S / N`. -/
def rootOf (N S : EReal) : EReal := Ideal.div 1 (Ideal.sqrt (Ideal.div S N + eps))

/-- The reciprocal root mean square of a row of `N` entries. -/
def rinv {n : ℕ} (N : EReal) (x : Fin n → EReal) : EReal := rootOf N (∑ c, x c * x c)

/-- The row, normalised and multiplied by its gain. -/
def normed {n : ℕ} (N : EReal) (x g : Fin n → EReal) (c : Fin n) : EReal := x c * rinv N x * g c

/-- The largest absolute value of a row (at least 0). -/
def largest {n : ℕ} (v : Fin n → EReal) : EReal := (univ : Finset (Fin n)).fold max 0 fun c => max (v c) (-v c)

/-- The quantiser's scale for a row whose largest absolute value is `m`: `m / 127`, or 1 for a row of zeros. -/
def scaleOf (m : EReal) : EReal := if m = 0 then 1 else Ideal.div m 127

/-- The scale of a normalised row. -/
def scale {n : ℕ} (N : EReal) (x g : Fin n → EReal) : EReal := scaleOf (largest (normed N x g))

/-- Round to nearest even, clip to [-127, 127], convert. -/
def codeOf (z : EReal) : BitVec 8 := Ideal.fptosi 8 (min 127 (max (-127) (Ideal.liftRound Ideal.roundHalfEven z)))

/-- The codes of a normalised row. -/
def code {n : ℕ} (N : EReal) (x g : Fin n → EReal) (c : Fin n) : BitVec 8 :=
  codeOf (Ideal.div (normed N x g c) (scale N x g))

/-- An integer read as an extended real. -/
def real {w : ℕ} (b : BitVec w) : EReal := ((b.toInt : ℝ) : EReal)

/-- The weight in field `k` of a packed byte: the field's two bits less 1. -/
def weight (b : BitVec 8) (k : ℕ) : EReal := real (((b.setWidth 32).sshiftRight (2 * k) &&& 3#32) - 1#32)

/-- No field of the byte is 3: its weights are -1, 0 and 1. -/
def Ternary (b : BitVec 8) : Prop := (b.setWidth 32 &&& (b.setWidth 32).sshiftRight 1) &&& 85#32 = 0#32

/-- The product of a row of codes with a column of packed weights, four to a byte. -/
def dot {n m : ℕ} (h : n = 4 * m) (q : Fin n → BitVec 8) (w : Fin m → BitVec 8) : EReal :=
  ∑ c : Fin n, real (q c) * weight (w ⟨c.val / 4, by omega⟩) (c.val % 4)

/-- The number of entries of a row of `x`, as the programs write it. -/
def n2560 : EReal := Ideal.ofBits .f32 0x45200000#32

/-- The number of entries of a row of the activation, as the programs write it. -/
def n6912 : EReal := Ideal.ofBits .f32 0x45D80000#32

/-! ## The layer -/

/-- An entry of the gate or up projection: the row of `x`, normalised and quantised, times a column of weights. -/
def proj (x g : Fin 2560 → EReal) (w : Fin 640 → BitVec 8) (s : EReal) : EReal :=
  dot (n := 2560) rfl (code n2560 x g) w * scale n2560 x g * s

/-- A row of the activation: the gate's positive part squared, times the up projection. -/
def act (x g : Fin 2560 → EReal) (wg wu : Fin 640 → Fin 6912 → BitVec 8) (sg su : EReal) (c : Fin 6912) : EReal :=
  max (proj x g (fun b => wg b c) sg) 0 * max (proj x g (fun b => wg b c) sg) 0 * proj x g (fun b => wu b c) su

/-- An entry of the result: `x` plus the down projection of the row `a`, normalised and quantised. -/
def out (x : EReal) (a g : Fin 6912 → EReal) (w : Fin 1728 → BitVec 8) (s : EReal) : EReal :=
  x + dot (n := 6912) rfl (code n6912 a g) w * scale n6912 a g * s

/-! ## Constants -/

theorem bits_one : Ideal.ofBits .f32 0x3F800000#32 = 1 := by
  simp [Ideal.ofBits, Ideal.ieee]; rw [← EReal.coe_mul]; norm_num

theorem bits_127 : Ideal.ofBits .f32 0x42FE0000#32 = 127 := by
  simp [Ideal.ofBits, Ideal.ieee]; rw [← EReal.coe_mul]; norm_num; rfl

theorem bits_neg127 : Ideal.ofBits .f32 0xC2FE0000#32 = -127 := by
  simp [Ideal.ofBits, Ideal.ieee]; rw [← EReal.coe_mul]; norm_num; rfl

theorem bits_neg_half : Ideal.ofBits .f32 0xBF000000#32 = ((-(1 / 2) : ℝ) : EReal) := by
  simp [Ideal.ofBits, Ideal.ieee]; rw [← EReal.coe_mul]; norm_num

theorem bits_two : Ideal.ofBits .bf16 0x4000#16 = ((2 : ℝ) : EReal) := by
  simp [Ideal.ofBits, Ideal.ieee]; rw [← EReal.coe_mul]; norm_num

theorem bits_neg_two : Ideal.ofBits .bf16 0xC000#16 = ((-2 : ℝ) : EReal) := by
  simp [Ideal.ofBits, Ideal.ieee]; rw [← EReal.coe_mul]; norm_num

theorem bits_zero : Ideal.ofBits .bf16 0x0000#16 = ((0 : ℝ) : EReal) := by
  simp [Ideal.ofBits, Ideal.ieee]

theorem bits_bot : Ideal.ofBits .f32 0xFF800000#32 = ⊥ := by
  simp [Ideal.ofBits, Ideal.ieee]

/-! ## The root and the scale are not negative -/

theorem sqrt_inv_nonneg (x : EReal) : 0 ≤ (Ideal.sqrt x)⁻¹ := by
  induction x using EReal.rec with
  | bot => show 0 ≤ (⊥ : EReal)⁻¹; simp
  | top => show 0 ≤ (⊤ : EReal)⁻¹; simp
  | coe r =>
    show 0 ≤ (if r < 0 then (⊥ : EReal) else (Real.sqrt r : EReal))⁻¹
    split
    · simp
    · exact EReal.inv_nonneg_of_nonneg (by exact_mod_cast Real.sqrt_nonneg r)

theorem rootOf_nonneg (N S : EReal) : 0 ≤ rootOf N S := by
  unfold rootOf
  generalize Ideal.div S N + eps = z
  unfold Ideal.div
  split
  · simp
  · rw [one_mul]; exact sqrt_inv_nonneg _

theorem monotone_mul (r : EReal) (hr : 0 ≤ r) : Monotone fun z : EReal => z * r :=
  fun _ _ h => mul_le_mul_of_nonneg_right h hr

theorem abs_nonneg' (a : EReal) : 0 ≤ max a (-a) := by
  rcases le_total 0 a with h | h
  · exact le_max_of_le_left h
  · exact le_max_of_le_right (by simpa using h)

theorem abs_mul_nonneg (a r : EReal) (hr : 0 ≤ r) : max (a * r) (-(a * r)) = max a (-a) * r := by
  rw [← EReal.neg_mul]
  exact ((monotone_mul r hr).map_max).symm

theorem largest_le_iff {n : ℕ} (v : Fin n → EReal) (t : EReal) :
    largest v ≤ t ↔ 0 ≤ t ∧ ∀ c, max (v c) (-v c) ≤ t := by
  simp [largest, Finset.fold_max_le]

theorem largest_nonneg {n : ℕ} (v : Fin n → EReal) : 0 ≤ largest v := ((largest_le_iff v _).1 le_rfl).1

/-- Multiplying a row by a number that is not negative multiplies its largest absolute value. -/
theorem largest_mul {n : ℕ} (v : Fin n → EReal) (r : EReal) (hr : 0 ≤ r) :
    largest (fun c => v c * r) = largest v * r := by
  unfold largest
  simp only [abs_mul_nonneg _ _ hr]
  have := Finset.fold_hom (op := max) (op' := max) (m := fun z : EReal => z * r) (b := (0 : EReal))
    (f := fun c => max (v c) (-v c)) (s := (univ : Finset (Fin n)))
    (fun x y => (monotone_mul r hr).map_max)
  simpa using this

/-- The largest absolute value of the normalised row, taken before the root is multiplied in. -/
theorem largest_normed {n : ℕ} (N : EReal) (x g : Fin n → EReal) :
    largest (normed N x g) = largest (fun c => x c * g c) * rinv N x := by
  unfold rinv
  rw [← largest_mul _ _ (rootOf_nonneg _ _)]
  congr 1; funext c; unfold normed rinv; rw [mul_right_comm]

/-- A maximum that starts at -∞ is the one that starts at 0, where the row has an entry. -/
theorem fold_bot_eq_largest {n : ℕ} (hn : 0 < n) (v : Fin n → EReal) :
    (univ : Finset (Fin n)).fold max ⊥ (fun c => max (v c) (-v c)) = largest v := by
  refine eq_of_forall_ge_iff fun t => ?_
  rw [largest_le_iff, Finset.fold_max_le]
  constructor
  · rintro ⟨-, h⟩
    exact ⟨(abs_nonneg' _).trans (h ⟨0, hn⟩ (mem_univ _)), fun c => h c (mem_univ _)⟩
  · rintro ⟨-, h⟩
    exact ⟨bot_le, fun c _ => h c⟩

theorem scaleOf_ne_zero (m : EReal) : scaleOf m ≠ 0 := by
  unfold scaleOf
  split
  · exact one_ne_zero
  · rename_i h
    have h127 : (127 : EReal) ≠ 0 := by norm_num
    rw [Ideal.div, if_neg h127]
    have hi : ((127 : EReal))⁻¹ = (((127 : ℝ)⁻¹ : ℝ) : EReal) := by rw [EReal.coe_inv]; rfl
    rw [hi]
    intro h0
    rcases mul_eq_zero.1 h0 with h1 | h1
    · exact h h1
    · norm_num at h1

/-- Dividing by a scale is multiplying by its reciprocal. -/
theorem mul_recip (v s : EReal) (hs : s ≠ 0) : v * Ideal.div 1 s = Ideal.div v s := by
  simp [Ideal.div, hs]

/-! ## Sums and maxima taken tile by tile -/

/-- A sum over `K * m` indices, as a sum over the lanes of the sums over the tiles. -/
theorem sum_tiles {K m n : ℕ} (h : n = K * m) (hb : ∀ (k : Fin K) (l : Fin m), m * k.val + l.val < n) (f : Fin n → EReal) :
    ∑ c, f c = ∑ l : Fin m, ∑ k : Fin K, f ⟨m * k.val + l.val, hb k l⟩ := by
  subst h
  rw [Finset.sum_comm, ← (finProdFinEquiv (m := K) (n := m)).sum_comp, Fintype.sum_prod_type]
  refine sum_congr rfl fun k _ => sum_congr rfl fun l _ => congrArg f (Fin.ext ?_)
  simp [finProdFinEquiv, add_comm]

/-- The same over pairs of tiles: `27 * 256` indices, 128 lanes, two lanes of a row of 256 to a trip. -/
theorem sum_pairs (f : Fin 6912 → EReal) :
    ∑ c, f c = ∑ l : Fin 128, ∑ k : Fin 27, (f ⟨256 * k.val + l.val, by omega⟩ + f ⟨256 * k.val + (128 + l.val), by omega⟩) := by
  rw [sum_tiles (K := 27) (m := 256) rfl (fun k l => by omega) f]
  simp only [sum_add_distrib]
  exact Fin.sum_univ_add (a := 128) (b := 128) _

/-- The largest absolute value, from the lanes' largest over the tiles. -/
theorem largest_tiles {K m n : ℕ} (h : n = K * m) (hm : 0 < m) (hb : ∀ (k : Fin K) (l : Fin m), m * k.val + l.val < n)
    (v : Fin n → EReal) (M : Fin m → EReal)
    (hM : ∀ l t, M l ≤ t ↔ 0 ≤ t ∧ ∀ k : Fin K, max (v ⟨m * k.val + l.val, hb k l⟩) (-v ⟨m * k.val + l.val, hb k l⟩) ≤ t) :
    (univ : Finset (Fin m)).fold max ⊥ M = largest v := by
  refine eq_of_forall_ge_iff fun t => ?_
  rw [largest_le_iff, Finset.fold_max_le]
  constructor
  · rintro ⟨-, H⟩
    refine ⟨((hM ⟨0, hm⟩ t).1 (H _ (mem_univ _))).1, fun c => ?_⟩
    have hk : c.val / m < K := Nat.div_lt_of_lt_mul (by rw [Nat.mul_comm, ← h]; exact c.isLt)
    have hc : c = ⟨m * (⟨c.val / m, hk⟩ : Fin K).val + (⟨c.val % m, Nat.mod_lt _ hm⟩ : Fin m).val, hb _ _⟩ :=
      Fin.ext (Nat.div_add_mod c.val m).symm
    rw [hc]
    exact ((hM ⟨c.val % m, Nat.mod_lt _ hm⟩ t).1 (H _ (mem_univ _))).2 ⟨c.val / m, hk⟩
  · rintro ⟨h0, H⟩
    exact ⟨bot_le, fun l _ => (hM l t).2 ⟨h0, fun k => H _⟩⟩

/-- The same over pairs of tiles. -/
theorem largest_pairs (v : Fin 6912 → EReal) (M : Fin 128 → EReal)
    (hM : ∀ (l : Fin 128) t, M l ≤ t ↔ 0 ≤ t ∧ ∀ k : Fin 27,
      max (v ⟨256 * k.val + l.val, by omega⟩) (-v ⟨256 * k.val + l.val, by omega⟩) ≤ t
        ∧ max (v ⟨256 * k.val + (128 + l.val), by omega⟩) (-v ⟨256 * k.val + (128 + l.val), by omega⟩) ≤ t) :
    (univ : Finset (Fin 128)).fold max ⊥ M = largest v := by
  refine largest_tiles (K := 54) (m := 128) rfl (by decide) (fun k l => by omega) v M fun l t => ?_
  rw [hM]
  refine and_congr_right fun _ => ⟨fun H k => ?_, fun H k => ⟨?_, ?_⟩⟩
  · rcases Nat.mod_two_eq_zero_or_one k.val with h2 | h2
    · have := (H ⟨k.val / 2, by omega⟩).1
      have e : (⟨128 * k.val + l.val, by omega⟩ : Fin 6912) = ⟨256 * (k.val / 2) + l.val, by omega⟩ := Fin.ext (by simp only []; omega)
      rw [e]; exact this
    · have := (H ⟨k.val / 2, by omega⟩).2
      have e : (⟨128 * k.val + l.val, by omega⟩ : Fin 6912) = ⟨256 * (k.val / 2) + (128 + l.val), by omega⟩ := Fin.ext (by simp only []; omega)
      rw [e]; exact this
  · have := H ⟨2 * k.val, by omega⟩
    have e : (⟨256 * k.val + l.val, by omega⟩ : Fin 6912) = ⟨128 * (2 * k.val) + l.val, by omega⟩ := Fin.ext (by simp only []; omega)
    rw [e]; exact this
  · have := H ⟨2 * k.val + 1, by omega⟩
    have e : (⟨256 * k.val + (128 + l.val), by omega⟩ : Fin 6912) = ⟨128 * (2 * k.val + 1) + l.val, by omega⟩ := Fin.ext (by simp only []; omega)
    rw [e]; exact this

/-! ## The packed weights -/

/-- The entry of a row of codes that stands at place `ρ` of the order the weights unpack in. -/
def order (ρ : ℕ) : ℕ := 128 * (ρ / 128) + (16 * (ρ / 2 % 8) + ρ % 128 / 16 + 8 * (ρ % 2))

theorem order_lt {n : ℕ} (hn : n % 128 = 0) {ρ : ℕ} (h : ρ < n) : order ρ < n := by unfold order; omega

/-- A sum in that order is the sum. -/
theorem sum_order {n : ℕ} (hn : n % 128 = 0) (f : Fin n → EReal) :
    ∑ ρ : Fin n, f ⟨order ρ, order_lt hn ρ.isLt⟩ = ∑ c, f c := by
  have hb : Function.Bijective fun ρ : Fin n => (⟨order ρ, order_lt hn ρ.isLt⟩ : Fin n) := by
    refine Finite.injective_iff_bijective.1 fun a b h => Fin.ext ?_
    replace h := congrArg Fin.val h
    simp only [order] at h
    generalize a.val = a at *; generalize b.val = b at *
    have key : ∀ a : ℕ, a = 128 * (a / 128) + 16 * (a % 128 / 16) + 2 * (a / 2 % 8) + a % 2 := fun a => by omega
    have bnd : ∀ a : ℕ, a % 128 / 16 < 8 ∧ a / 2 % 8 < 8 ∧ a % 2 < 2 := fun a => by omega
    rw [key a, key b]
    obtain ⟨a1, a2, a3⟩ := bnd a
    obtain ⟨b1, b2, b3⟩ := bnd b
    clear key bnd
    generalize a / 128 = q at *; generalize a % 128 / 16 = x at *; generalize a / 2 % 8 = y at *; generalize a % 2 = z at *
    generalize b / 128 = q' at *; generalize b % 128 / 16 = x' at *; generalize b / 2 % 8 = y' at *; generalize b % 2 = z' at *
    omega
  exact hb.sum_comp f

theorem coe_sum {n : ℕ} (f : Fin n → ℝ) : ((∑ c, f c : ℝ) : EReal) = ∑ c, (f c : EReal) := by
  induction n with
  | zero => simp
  | succ n ih => rw [Fin.sum_univ_succ, Fin.sum_univ_succ, EReal.coe_add, ih]

/-- Weights stored as `-2` times their value give `-2` times the product. -/
theorem dot_order {n m : ℕ} (h : n = 4 * m) (hn : n % 128 = 0) (q : Fin n → BitVec 8) (w : Fin m → BitVec 8)
    (L W : Fin n → EReal) (hL : ∀ ρ : Fin n, L ρ = real (q ⟨order ρ, order_lt hn ρ.isLt⟩))
    (hW : ∀ ρ : Fin n, W ρ = ((-2 : ℝ) : EReal) * weight (w ⟨order ρ / 4, by have := order_lt hn ρ.isLt; omega⟩) (order ρ % 4)) :
    ∑ ρ, L ρ * W ρ = ((-2 : ℝ) : EReal) * dot h q w := by
  have e : ∀ ρ : Fin n, L ρ * W ρ = (fun c : Fin n => ((-2 : ℝ) : EReal) * (real (q c) * weight (w ⟨c.val / 4, by omega⟩) (c.val % 4)))
      ⟨order ρ, order_lt hn ρ.isLt⟩ := fun ρ => by
    rw [hL, hW, mul_left_comm]
  rw [sum_congr rfl fun ρ _ => e ρ, sum_order hn (fun c : Fin n => ((-2 : ℝ) : EReal) * (real (q c) * weight (w ⟨c.val / 4, by omega⟩) (c.val % 4)))]
  unfold dot weight real
  simp only [← EReal.coe_mul]
  rw [← coe_sum, ← coe_sum, ← EReal.coe_mul, mul_sum]

/-- The scale's half takes the factor `-2` back. -/
theorem neg_two_half (D s w : EReal) : ((-2 : ℝ) : EReal) * D * (s * ((-(1 / 2) : ℝ) : EReal)) * w = D * s * w := by
  have : ((-2 : ℝ) : EReal) * ((-(1 / 2) : ℝ) : EReal) = 1 := by rw [← EReal.coe_mul]; norm_num
  congr 1
  calc _ = (((-2 : ℝ) : EReal) * ((-(1 / 2) : ℝ) : EReal)) * (D * s) := by ac_rfl
    _ = _ := by rw [this, one_mul]

/-- A sum over the fields, then the bytes, is the product. -/
theorem dot_fields {n m : ℕ} (h : n = 4 * m) (q : Fin n → BitVec 8) (w : Fin m → BitVec 8) :
    (∑ i : Fin m, real (q ⟨4 * i.val + 0, by omega⟩) * weight (w i) 0)
        + (∑ i : Fin m, real (q ⟨4 * i.val + 1, by omega⟩) * weight (w i) 1)
        + (∑ i : Fin m, real (q ⟨4 * i.val + 2, by omega⟩) * weight (w i) 2)
        + (∑ i : Fin m, real (q ⟨4 * i.val + 3, by omega⟩) * weight (w i) 3) = dot h q w := by
  unfold dot
  rw [sum_tiles (K := m) (m := 4) (n := n) (by omega) (fun k l => by omega)]
  have key : ∀ (l : ℕ) (hl : l < 4), (∑ i : Fin m, real (q ⟨4 * i.val + l, by omega⟩) * weight (w i) l)
      = ∑ k : Fin m, real (q ⟨4 * k.val + l, by omega⟩)
          * weight (w ⟨(4 * k.val + l) / 4, by omega⟩) ((4 * k.val + l) % 4) := fun l hl => sum_congr rfl fun k _ => by
    have e1 : (⟨(4 * k.val + l) / 4, by omega⟩ : Fin m) = k := Fin.ext (by simp only []; omega)
    have e2 : (4 * k.val + l) % 4 = l := by omega
    rw [e1, e2]
  rw [Fin.sum_univ_four, key 0 (by omega), key 1 (by omega), key 2 (by omega), key 3 (by omega)]
  rfl

/-- A field's two bits, the lower one flipped, at the sign and the top exponent bit of a float, are `-2` times the
    field's weight. -/
theorem field_value (b : BitVec 8) (hb : Ternary b) (k : ℕ) (hk : k < 4) (v : BitVec 16)
    (h14 : v.getLsbD 14 = !b.getLsbD (2 * k)) (h15 : v.getLsbD 15 = b.getLsbD (2 * k + 1))
    (hlow : ∀ i < 14, v.getLsbD i = false) :
    Ideal.ofBits .bf16 v = ((-2 : ℝ) : EReal) * weight b k := by
  have hv : v = (if b.getLsbD (2 * k + 1) then 0x8000#16 else 0#16) ||| (if b.getLsbD (2 * k) then 0#16 else 0x4000#16) := by
    refine BitVec.eq_of_getLsbD_eq fun i hi => ?_
    rcases Nat.lt_or_ge i 14 with h | h
    · rw [hlow i h]
      interval_cases i <;> cases b.getLsbD (2 * k + 1) <;> cases b.getLsbD (2 * k) <;> decide
    · obtain rfl | rfl : i = 14 ∨ i = 15 := by omega
      · rw [h14]; cases b.getLsbD (2 * k + 1) <;> cases b.getLsbD (2 * k) <;> decide
      · rw [h15]; cases b.getLsbD (2 * k + 1) <;> cases b.getLsbD (2 * k) <;> decide
  have hw : ∀ k : Fin 4, ∀ b : BitVec 8, (b.setWidth 32 &&& (b.setWidth 32).sshiftRight 1) &&& 85#32 = 0#32 →
      ((!b.getLsbD (2 * k.val + 1) && !b.getLsbD (2 * k.val)) = true → (((b.setWidth 32).sshiftRight (2 * k.val) &&& 3#32) - 1#32).toInt = -1)
      ∧ ((!b.getLsbD (2 * k.val + 1) && b.getLsbD (2 * k.val)) = true → (((b.setWidth 32).sshiftRight (2 * k.val) &&& 3#32) - 1#32).toInt = 0)
      ∧ ((b.getLsbD (2 * k.val + 1) && !b.getLsbD (2 * k.val)) = true → (((b.setWidth 32).sshiftRight (2 * k.val) &&& 3#32) - 1#32).toInt = 1)
      ∧ (b.getLsbD (2 * k.val + 1) && b.getLsbD (2 * k.val)) = false := by
    decide +kernel
  obtain ⟨w0, w1, w2, w3⟩ := hw ⟨k, hk⟩ b hb
  simp only [] at w0 w1 w2 w3
  rw [hv]
  unfold weight real
  cases h1 : b.getLsbD (2 * k + 1) <;> cases h0 : b.getLsbD (2 * k) <;> rw [h1, h0] at w0 w1 w2 w3
  · rw [w0 rfl]
    show Ideal.ofBits .bf16 0x4000#16 = _
    rw [bits_two, ← EReal.coe_mul]; norm_num
  · rw [w1 rfl]
    show Ideal.ofBits .bf16 0x0000#16 = _
    rw [bits_zero, ← EReal.coe_mul]; norm_num
  · rw [w2 rfl]
    show Ideal.ofBits .bf16 0xC000#16 = _
    rw [bits_neg_two, ← EReal.coe_mul]; norm_num
  · cases w3

end Ffn
-- ==== Proof.EvalRows.lean ====
/- The normalisation and the quantiser of one row block, read entry by entry. -/
module

public import proofs.«01_k».proof.Proof.Tiles
public import proofs.«01_k».proof.Proof.Math
public import Idealize.ShloMosaic.Lib.Pointwise
public import Idealize.ShloMosaic.Lib.BitcastFour
public import Idealize.ShloMosaic.Lib.Pointwise.IndexBridge

@[expose] public section

set_option maxRecDepth 16384

noncomputable section

namespace Cert.KernelIdeal.Gen

open Idealize.ShloMosaic Idealize.ShloMosaic.TcCoe Ffn

theorem wide_apply (x : Vec Ideal S32x128 .bf16) (i : Fin 32) (l : Fin 128) : wide x (ix2 i l) = x (ix2 i l) := by
  pointwise [wide]

theorem gain_apply (g : Vec Ideal S1x128 .f32) (i : Fin 32) (l : Fin 128) : gain g (ix2 i l) = g (ix2 0 l) := by
  pointwise [gain]

theorem sumSq_succ (x : Fin 20 → Vec Ideal S32x128 .bf16) (n : ℕ) (h : n + 1 ≤ 20) :
    sumSq x (n + 1) h = addf (sumSq x n (Nat.le_of_succ_le h)) (mulf (wide (x ⟨n, h⟩)) (wide (x ⟨n, h⟩))) := rfl

theorem maxAbs_succ (x : Fin 20 → Vec Ideal S32x128 .bf16) (g : Fin 20 → Vec Ideal S1x128 .f32) (n : ℕ) (h : n + 1 ≤ 20) :
    maxAbs x g (n + 1) h
      = maximumf (maxAbs x g n (Nat.le_of_succ_le h)) (absf (mulf (wide (x ⟨n, h⟩)) (gain (g ⟨n, h⟩)))) := rfl

theorem sumSq_apply (x : Fin 20 → Vec Ideal S32x128 .bf16) (n : ℕ) (h : n ≤ 20) (i : Fin 32) (l : Fin 128) :
    sumSq x n h (ix2 i l) = ∑ j : Fin n, x ⟨j, by omega⟩ (ix2 i l) * x ⟨j, by omega⟩ (ix2 i l) := by
  induction n with
  | zero => simp only [sumSq, foldUp]; pointwise; simp
  | succ n ih =>
    rw [Fin.sum_univ_castSucc, sumSq_succ]
    pointwise
    rw [ih (by omega), wide_apply]
    rfl

theorem maxAbs_le_iff (x : Fin 20 → Vec Ideal S32x128 .bf16) (g : Fin 20 → Vec Ideal S1x128 .f32) (n : ℕ) (h : n ≤ 20)
    (i : Fin 32) (l : Fin 128) (t : EReal) :
    maxAbs x g n h (ix2 i l) ≤ t ↔ 0 ≤ t ∧ ∀ j : Fin 20, j.val < n →
      max (x j (ix2 i l) * g j (ix2 0 l)) (-(x j (ix2 i l) * g j (ix2 0 l))) ≤ t := by
  induction n with
  | zero => simp only [maxAbs, foldUp]; pointwise; simp
  | succ n ih =>
    rw [maxAbs_succ]
    pointwise
    rw [max_le_iff, ih (by omega), wide_apply, gain_apply, Ideal.absf_def, and_assoc]
    refine and_congr_right fun _ => ⟨fun ⟨H, h1⟩ j hj => ?_, fun H => ⟨fun j hj => H j (by omega), H ⟨n, h⟩ (by simp)⟩⟩
    rcases Nat.lt_succ_iff_lt_or_eq.1 hj with h2 | h2
    · exact H j h2
    · have : j = ⟨n, h⟩ := Fin.ext h2
      rw [this]; exact h1

theorem lane20 (j : Fin 20) (l : Fin 128) : 128 * j.val + l.val < 2560 := by omega

section
variable (x : Fin 20 → Vec Ideal S32x128 .bf16) (g : Fin 20 → Vec Ideal S1x128 .f32)
  (X : Fin 32 → Fin 2560 → EReal) (G : Fin 2560 → EReal)
  (hx : ∀ (j : Fin 20) (i : Fin 32) (l : Fin 128), x j (ix2 i l) = X i ⟨128 * j.val + l.val, lane20 j l⟩)
  (hg : ∀ (j : Fin 20) (l : Fin 128), g j (ix2 0 l) = G ⟨128 * j.val + l.val, lane20 j l⟩)

include hx in
/-- The block's reciprocal root mean squares. -/
theorem rowNorm_apply (i : Fin 32) : rowNorm x (ix2 i 0) = rinv n2560 (X i) := by
  pointwise [rowNorm, k0_pay32]
  simp only [sumSq_apply, hx]
  rw [rinv, sum_tiles (K := 20) (m := 128) rfl (fun k l => by omega)]
  rfl

include hx hg in
/-- The block's scales. -/
theorem rowScale_apply (i : Fin 32) : rowScale x g (ix2 i 0) = scale n2560 (X i) G := by
  have hr := rowNorm_apply x X hx i
  rw [rowNorm] at hr
  pointwise [rowScale, k0_pay33]
  rw [hr, bits_127, bits_bot]
  have hm : (Finset.univ : Finset (Fin 128)).fold max ⊥ (fun l =>
      max (maxAbs x g 19 rowScale._proof_1 (ix2 i l)) (FloatOps.absf (φ := .f32) (wide (x 19) (ix2 i l) * g 19 (ix2 0 l))))
      = largest fun c => X i c * G c := by
    refine largest_tiles (K := 20) (m := 128) rfl (by decide) (fun k l => by omega) _ _ fun l t => ?_
    rw [max_le_iff, maxAbs_le_iff, wide_apply, Ideal.absf_def, and_assoc]
    simp only [hx, hg]
    refine and_congr_right fun _ => ⟨fun ⟨H, h1⟩ k => ?_, fun H => ⟨fun j _ => H j, H 19⟩⟩
    rcases Nat.lt_succ_iff_lt_or_eq.1 (show k.val < 19 + 1 from k.isLt) with h2 | h2
    · exact H k h2
    · have : k = 19 := Fin.ext h2
      rw [this]; exact h1
  rw [hm, ← largest_normed]
  rfl

include hx hg in
/-- A block's entries, normalised and divided by the scale. -/
theorem scaled_apply (j : Fin 20) (i : Fin 32) (l : Fin 128) :
    scaled x g j (ix2 i l) = Ideal.div (normed n2560 (X i) G ⟨128 * j.val + l.val, by omega⟩) (scale n2560 (X i) G) := by
  have hr := rowNorm_apply x X hx i
  have hs := rowScale_apply x g X G hx hg i
  rw [rowNorm] at hr
  rw [rowScale] at hs
  pointwise [scaled, k0_pay36, k0_pay34]
  rw [hr, hs, mul_recip _ (scale n2560 (X i) G) (scaleOf_ne_zero _), hx, hg]
  rfl

include hx hg in
theorem scaleLanes_apply (i : Fin 32) (l : Fin 128) : scaleLanes x g (ix2 i l) = scale n2560 (X i) G := by
  have hs := rowScale_apply x g X G hx hg i
  rw [rowScale] at hs
  pointwise [scaleLanes, k0_pay35]
  exact hs

end

/-- Rank 2: bit `q` of element `(a, l)` of the re-read array, from the source row the bit lies in. -/
theorem bitcast_bit {R r n v w : ℕ} (x : (⟨2, ![R, n]⟩ : Shape).Idx → BitVec v)
    (h : (⟨2, ![R, n]⟩ : Shape).Bitcasts v ⟨2, ![r, n]⟩ w) (a : Fin r) (l : Fin n) (q : ℕ) (hq : q < w) (hv : 0 < v) (p : Fin R)
    (hp : p.val = (a.val * w + q) / v) :
    (bitcast ⟨2, ![r, n]⟩ w x h (ix2 a l)).getLsbD q = (x (ix2 p l)).getLsbD ((a.val * w + q) % v) := by
  rw [bitcast_getLsbD x h _ q hq hv]
  simp only [ix2_eq_valueIdx]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The quantiser of one block. -/
theorem pay37_apply (v : FVec Ideal S32x128 .f32) (i : Fin 32) (l : Fin 128) :
    k0_pay37 v (ix2 i l) = codeOf (v (ix2 i l)) := by
  pointwise [k0_pay37]
  rw [bits_127, bits_neg127]
  rfl

/-- The lane order the kernel computes. -/
theorem pay755_apply (a : Fin 8) (l : Fin 128) : k0_pay755 (ix2 a l) = BitVec.ofNat 32 (order l.val) := by
  have h : ∀ l : Fin 128, IntOp.addi (IntOp.addi (IntOp.muli 16#32 (IntOp.andi (IntOp.shrsi .vector (BitVec.ofNat 32 l.val) 1#32) 7#32))
      (IntOp.shrsi .vector (BitVec.ofNat 32 l.val) 4#32)) (IntOp.muli 8#32 (IntOp.andi (BitVec.ofNat 32 l.val) 1#32))
      = BitVec.ofNat 32 (order l.val) := by decide +kernel
  pointwise [k0_pay755]
  exact h l

theorem order_lane_lt (l : Fin 128) : order l.val < 128 := by unfold order; omega

/-- The codes as the product takes them: lane `l` holds the code of lane `order l`. -/
theorem pay38_apply (v : FVec Ideal S32x128 .f32) (i : Fin 32) (l : Fin 128) :
    k0_pay38 k0_pay755 v (ix2 i l) = real (codeOf (v (ix2 i ⟨order l.val, order_lane_lt l⟩))) := by
  pointwise [k0_pay38]
  show real _ = _
  congr 1
  rw [← pay37_apply]
  generalize k0_pay37 v = u
  have hl : order l.val < 128 := by unfold order; omega
  have hgath : ∀ a : Fin 8, dynamicGather (s := S8x128) 1 (bitcast S8x128 32 u bitcasts_S32x128_w8_S8x128_w32)
      (select (cmpi CmpIPredicate.slt k0_pay755 (broadcast S8x128 0#32)) (addi k0_pay755 (broadcast S8x128 128#32)) k0_pay755)
      (ix2 a l) = bitcast S8x128 32 u bitcasts_S32x128_w8_S8x128_w32 (ix2 a ⟨order l.val, hl⟩) := fun a => by
    have h : ∀ o : Fin 128, (Scalar.select (IntOp.cmpi .slt (BitVec.ofNat 32 o.val) 0#32) (IntOp.addi (BitVec.ofNat 32 o.val) 128#32)
        (BitVec.ofNat 32 o.val)).toNat % 128 = o.val := by decide +kernel
    have h' := h ⟨order l.val, hl⟩
    rw [← pay755_apply a] at h'
    rw [dynamicGather_apply]
    congr 1
    funext b
    match b with
    | ⟨0, _⟩ => rfl
    | ⟨1, _⟩ => exact Fin.ext h'
  refine BitVec.eq_of_getLsbD_eq fun q hq => ?_
  rw [bitcast_bit _ _ i l q hq (by decide) ⟨i.val / 4, by omega⟩ (by simp only []; omega), hgath,
    bitcast_bit _ _ _ _ _ (by omega) (by decide) i (by simp only []; omega)]
  congr 1
  simp only []
  omega

end Cert.KernelIdeal.Gen
-- ==== Proof.EvalWeights.lean ====
/- The packed weights of one tile, read entry by entry, and the products with them. -/
module

public import proofs.«01_k».proof.Proof.EvalRows

@[expose] public section

set_option maxRecDepth 16384

noncomputable section

namespace Cert.KernelIdeal.Gen

open Idealize.ShloMosaic Idealize.ShloMosaic.TcCoe Ffn

theorem shli_bit (x : BitVec 32) (s : ℕ) (hs : s < 32) (q : ℕ) (hq : q < 32) (hq' : s ≤ q) :
    (IntOp.shli .vector x (BitVec.ofNat 32 s)).getLsbD q = x.getLsbD (q - s) := by
  have : (BitVec.ofNat 32 s).toNat = s := by simp; omega
  rw [IntOp.shli, this, if_pos hs]
  simp only [this, BitVec.shiftLeft_eq', BitVec.getLsbD_shiftLeft, hq, decide_true, Bool.true_and]
  rw [decide_eq_false (by omega)]; simp

/-- A shifted word's bits: field `f` of each half comes to the half's top. -/
theorem fieldUp_bit (w : IVec S8x256 32) (f : Fin 8) (r : Fin 8) (c : Fin 256) (q : ℕ) (hq : q < 32) (hq' : 14 - 2 * f.val ≤ q) :
    (fieldUp w f (ix2 r c)).getLsbD q = (w (ix2 r c)).getLsbD (q - (14 - 2 * f.val)) := by
  match f with
  | 7 => rfl
  | 0 => exact shli_bit _ 14 (by omega) q hq (by simpa using hq')
  | 1 => exact shli_bit _ 12 (by omega) q hq (by simpa using hq')
  | 2 => exact shli_bit _ 10 (by omega) q hq (by simpa using hq')
  | 3 => exact shli_bit _ 8 (by omega) q hq (by simpa using hq')
  | 4 => exact shli_bit _ 6 (by omega) q hq (by simpa using hq')
  | 5 => exact shli_bit _ 4 (by omega) q hq (by simpa using hq')
  | 6 => exact shli_bit _ 2 (by omega) q hq (by simpa using hq')

/-- The words: the packed bytes of four rows, every field's low bit flipped. -/
theorem words_bit (p : Vec Ideal S32x256 .i8) (r : Fin 8) (c : Fin 256) (q : ℕ) (hq : q < 32) :
    (words p (ix2 r c)).getLsbD q = ((p (ix2 ⟨4 * r.val + q / 8, by omega⟩ c)).getLsbD (q % 8) ^^ decide (q % 2 = 0)) := by
  have h5 : ∀ q : Fin 32, (1431655765#32 : BitVec 32).getLsbD q.val = decide (q.val % 2 = 0) := by decide +kernel
  pointwise [words]
  rw [IntOp.xori, BitVec.getLsbD_xor, h5 ⟨q, hq⟩,
    bitcast_bit _ _ r c q hq (by decide) ⟨4 * r.val + q / 8, by omega⟩ (by simp only []; omega)]
  congr 2
  omega

theorem order_mod (ρ : ℕ) : order ρ = 128 * (ρ / 128) + order (ρ % 128) := by
  have h1 : ρ % 128 / 128 = 0 := by omega
  have h2 : ρ % 128 / 2 % 8 = ρ / 2 % 8 := by omega
  have h3 : ρ % 128 % 128 = ρ % 128 := by omega
  have h4 : ρ % 128 % 2 = ρ % 2 := by omega
  unfold order
  rw [h1, h2, h3, h4]; omega

/-- Where field `f` of half `h` of a word lies: its byte and its bits. -/
theorem places (ρ : ℕ) (hρ : ρ < 128) (q : ℕ) (h1 : 14 ≤ q) (h2 : q < 16) :
    4 * (ρ % 16 / 2) + (16 * (ρ % 2) + q - (14 - 2 * (ρ / 16))) / 8 = order ρ / 4
      ∧ (16 * (ρ % 2) + q - (14 - 2 * (ρ / 16))) % 8 = 2 * (order ρ % 4) + (q - 14)
      ∧ ((16 * (ρ % 2) + q - (14 - 2 * (ρ / 16))) % 2 = 0 ↔ q = 14) := by
  have h : ∀ (ρ : Fin 128) (q : Fin 16), 14 ≤ q.val →
      4 * (ρ.val % 16 / 2) + (16 * (ρ.val % 2) + q.val - (14 - 2 * (ρ.val / 16))) / 8 = order ρ.val / 4
      ∧ (16 * (ρ.val % 2) + q.val - (14 - 2 * (ρ.val / 16))) % 8 = 2 * (order ρ.val % 4) + (q.val - 14)
      ∧ ((16 * (ρ.val % 2) + q.val - (14 - 2 * (ρ.val / 16))) % 2 = 0 ↔ q.val = 14) := by decide +kernel
  exact h ⟨ρ, hρ⟩ ⟨q, h2⟩ h1

/-- An unpacked tile's entry: `-2` times the weight of the field and byte that stand there. -/
theorem unpacked_apply (p : Vec Ideal S32x256 .i8) (hp : ∀ i, Ternary (p i)) (ρ : Fin 128) (c : Fin 256) :
    unpacked p (ix2 ρ c)
      = ((-2 : ℝ) : EReal) * weight (p (ix2 ⟨order ρ.val / 4, by unfold order; omega⟩ c)) (order ρ.val % 4) := by
  have hf : ρ.val / 16 < 8 := by omega
  have ht : ρ.val % 16 < 16 := by omega
  have hr : ρ.val % 16 / 2 < 8 := by omega
  unfold unpacked
  refine (concatenate_ofFn_apply (s₁ := S16x256) (t := S128x256) 0 (fun f : Fin 8 => halves (fieldUp (words p) f)) _ rfl 16 rfl
    (ix2 ρ c) ⟨ρ.val / 16, hf⟩ rfl (ix2 ⟨ρ.val % 16, ht⟩ c) rfl ?_).trans ?_
  · intro b hb
    match b with
    | ⟨0, _⟩ => exact absurd rfl hb
    | ⟨1, _⟩ => rfl
  pointwise [halves]
  have hm : ∀ q : Fin 32, (3221274624#32 : BitVec 32).getLsbD q.val = decide (14 ≤ q.val % 16) := by decide +kernel
  have hbit : ∀ q, q < 16 → (bitcast S16x256 16 (andi (fieldUp (words p) ⟨ρ.val / 16, hf⟩) (broadcast S8x256 3221274624#32))
      bitcasts_S8x256_w32_S16x256_w16 (ix2 ⟨ρ.val % 16, ht⟩ c)).getLsbD q
      = ((fieldUp (words p) ⟨ρ.val / 16, hf⟩ (ix2 ⟨ρ.val % 16 / 2, hr⟩ c)).getLsbD (16 * (ρ.val % 2) + q) && decide (14 ≤ q)) := fun q hq => by
    rw [bitcast_bit _ _ _ c q hq (by decide) ⟨ρ.val % 16 / 2, hr⟩ (by simp only []; omega)]
    pointwise
    have e : (ρ.val % 16 * 16 + q) % 32 = 16 * (ρ.val % 2) + q := by omega
    have e' : (16 * (ρ.val % 2) + q) % 16 = q := by omega
    rw [e, IntOp.andi, BitVec.getLsbD_and, hm ⟨16 * (ρ.val % 2) + q, by omega⟩]
    simp only [e']
  have htop : ∀ q, 14 ≤ q → q < 16 → (bitcast S16x256 16 (andi (fieldUp (words p) ⟨ρ.val / 16, hf⟩) (broadcast S8x256 3221274624#32))
      bitcasts_S8x256_w32_S16x256_w16 (ix2 ⟨ρ.val % 16, ht⟩ c)).getLsbD q
      = ((p (ix2 ⟨order ρ.val / 4, by unfold order; omega⟩ c)).getLsbD (2 * (order ρ.val % 4) + (q - 14)) ^^ decide (q = 14)) := fun q h1 h2 => by
    rw [hbit q h2, fieldUp_bit _ _ _ _ _ (by omega) (by simp only []; omega), words_bit _ _ _ _ (by omega)]
    obtain ⟨e1, e2, e3⟩ := places ρ.val ρ.isLt q h1 h2
    simp only [e1, e2, e3, decide_eq_true h1, Bool.and_true]
  refine field_value _ (hp _) _ (by omega) _ ?_ ?_ fun i hi => ?_
  · rw [htop 14 (by omega) (by omega)]; simp
  · rw [htop 15 (by omega) (by omega)]; simp
  · rw [hbit i (by omega)]; simp; omega

/-- An entry of a column tile of the gate or up weights. -/
theorem tileIn_apply (p : Fin 20 → Vec Ideal S32x256 .i8) (w : Fin 640 → BitVec 8) (c : Fin 256)
    (hp : ∀ j i, Ternary (p j i)) (hw : ∀ (j : Fin 20) (i : Fin 32), p j (ix2 i c) = w ⟨32 * j.val + i.val, by omega⟩)
    (ρ : Fin 2560) :
    tileIn p (ix2 ρ c) = ((-2 : ℝ) : EReal) * weight (w ⟨order ρ.val / 4, by unfold order; omega⟩) (order ρ.val % 4) := by
  have hj : ρ.val / 128 < 20 := by omega
  have hl : ρ.val % 128 < 128 := by omega
  unfold tileIn
  refine (concatenate_ofFn_apply (s₁ := S128x256) (t := S2560x256) 0 (fun j : Fin 20 => unpacked (p j)) _ rfl 128 rfl
    (ix2 ρ c) ⟨ρ.val / 128, hj⟩ rfl (ix2 ⟨ρ.val % 128, hl⟩ c) rfl ?_).trans ?_
  · intro b hb
    match b with
    | ⟨0, _⟩ => exact absurd rfl hb
    | ⟨1, _⟩ => rfl
  rw [unpacked_apply _ (hp _), hw]
  have h := order_mod ρ.val
  have h1 : order (ρ.val % 128) % 4 = order ρ.val % 4 := by omega
  have h2 : 32 * (ρ.val / 128) + order (ρ.val % 128) / 4 = order ρ.val / 4 := by omega
  simp only [h1, h2]

/-- An entry of a column tile of the down weights. -/
theorem tileDown_apply (p : Fin 54 → Vec Ideal S32x256 .i8) (w : Fin 1728 → BitVec 8) (c : Fin 256)
    (hp : ∀ j i, Ternary (p j i)) (hw : ∀ (j : Fin 54) (i : Fin 32), p j (ix2 i c) = w ⟨32 * j.val + i.val, by omega⟩)
    (ρ : Fin 6912) :
    tileDown p (ix2 ρ c) = ((-2 : ℝ) : EReal) * weight (w ⟨order ρ.val / 4, by unfold order; omega⟩) (order ρ.val % 4) := by
  have hj : ρ.val / 128 < 54 := by omega
  have hl : ρ.val % 128 < 128 := by omega
  unfold tileDown
  refine (concatenate_ofFn_apply (s₁ := S128x256) (t := S6912x256) 0 (fun j : Fin 54 => unpacked (p j)) _ rfl 128 rfl
    (ix2 ρ c) ⟨ρ.val / 128, hj⟩ rfl (ix2 ⟨ρ.val % 128, hl⟩ c) rfl ?_).trans ?_
  · intro b hb
    match b with
    | ⟨0, _⟩ => exact absurd rfl hb
    | ⟨1, _⟩ => rfl
  rw [unpacked_apply _ (hp _), hw]
  have h := order_mod ρ.val
  have h1 : order (ρ.val % 128) % 4 = order ρ.val % 4 := by omega
  have h2 : 32 * (ρ.val / 128) + order (ρ.val % 128) / 4 = order ρ.val / 4 := by omega
  simp only [h1, h2]

/-- A value repeated along 128 lanes, twice side by side. -/
theorem twice_apply (s : Vec Ideal S256x128 .f32) (S : Fin 256 → EReal) (hs : ∀ i l, s (ix2 i l) = S i) (i c : Fin 256) :
    k0_pay91 s s (ix2 i c) = S i * ((-(1 / 2) : ℝ) : EReal) := by
  pointwise [k0_pay91]
  rw [bits_neg_half]
  split <;> rw [hs]

/-- A column tile of a gate or up projection. -/
theorem project_apply (q : FVec Ideal S256x2560 .bf16) (p : Fin 20 → Vec Ideal S32x256 .i8) (s : Vec Ideal S256x128 .f32)
    (w : EReal) (S : Fin 256 → EReal) (C : Fin 256 → Fin 2560 → BitVec 8) (W : Fin 256 → Fin 640 → BitVec 8)
    (hq : ∀ i (ρ : Fin 2560), q (ix2 i ρ) = real (C i ⟨order ρ.val, order_lt rfl ρ.isLt⟩)) (hs : ∀ i l, s (ix2 i l) = S i)
    (hp : ∀ j i, Ternary (p j i)) (hw : ∀ (j : Fin 20) (i : Fin 32) c, p j (ix2 i c) = W c ⟨32 * j.val + i.val, by omega⟩)
    (i c : Fin 256) : project q p s w (ix2 i c) = dot (n := 2560) (m := 640) rfl (C i) (W c) * S i * w := by
  pointwise [project, k0_pay316]
  rw [twice_apply s S hs, dot_order (n := 2560) (m := 640) rfl rfl (C i) (W c) _ _ (hq i) (tileIn_apply p (W c) c hp fun j i => hw j i c),
    neg_two_half]

/-- A column tile of the result. -/
theorem down_apply (w : EReal) (q : FVec Ideal S256x6912 .bf16) (p : Fin 54 → Vec Ideal S32x256 .i8) (s : Vec Ideal S1x256x128 .f32)
    (x : Vec Ideal S256x256 .bf16) (S : Fin 256 → EReal) (C : Fin 256 → Fin 6912 → BitVec 8) (W : Fin 256 → Fin 1728 → BitVec 8)
    (hq : ∀ i (ρ : Fin 6912), q (ix2 i ρ) = real (C i ⟨order ρ.val, order_lt rfl ρ.isLt⟩)) (hs : ∀ i l, s (ix3 0 i l) = S i)
    (hp : ∀ j i, Ternary (p j i)) (hw : ∀ (j : Fin 54) (i : Fin 32) c, p j (ix2 i c) = W c ⟨32 * j.val + i.val, by omega⟩)
    (i c : Fin 256) : down w q p s x (ix2 i c) = x (ix2 i c) + dot (n := 6912) (m := 1728) rfl (C i) (W c) * S i * w := by
  pointwise [down, k0_pay769]
  rw [bits_neg_half, dot_order (n := 6912) (m := 1728) rfl rfl (C i) (W c) _ _ (hq i) (tileDown_apply p (W c) c hp fun j i => hw j i c)]
  simp only [hs, dite_eq_ite, ite_self]
  rw [neg_two_half]

end Cert.KernelIdeal.Gen
-- ==== Proof.Read1.lean ====
/- What the first loop writes: the codes of the normalised rows, the same in the weights' row order, and the rows' scales. -/
module

public import proofs.«01_k».proof.Proof.Read
public import proofs.«01_k».proof.Proof.Trip1
public import proofs.«01_k».proof.Proof.EvalRows
public import proofs.«01_k».proof.Proof.EvalWeights
public import Idealize.ShloMosaic.Lib.Tactic
import all proofs.«01_k».proof.Proof.Gen.KernelIdeal.Loops

@[expose] public section

set_option maxRecDepth 100000

noncomputable section

namespace Cert.KernelIdeal.Gen

open Idealize.ShloMosaic Idealize.ShloMosaic.TcCoe Idealize.ShloMosaic.Tactic
open Idealize.SL Idealize.SL.Sem
open Ffn

variable (𝒱 : Variants) (c : Dev nD) (bd : Option 𝒱.V) (arg0 : Memref sig .tc .vmem S256x2560 .bf16) (harg0 : arg0.IsWhole)
  (arg1 : Memref sig .tc .vmem S1x2560 .f32) (harg1 : arg1.IsWhole) (arg2 : Memref sig .tc .vmem S1x6912 .f32) (harg2
  : arg2.IsWhole) (arg3 : Memref sig .tc .smem S3 .f32) (harg3 : arg3.IsWhole) (arg4 : Memref sig .tc .hbm S640x6912
  .i8) (harg4 : arg4.IsWhole) (arg5 : Memref sig .tc .hbm S640x6912 .i8) (harg5 : arg5.IsWhole) (arg6 : Memref sig .tc
  .hbm S1728x2560 .i8) (harg6 : arg6.IsWhole) (arg7 : Memref sig .tc .vmem S256x2560 .bf16) (harg7 : arg7.IsWhole)
  (arg8 : Memref sig .tc .vmem S256x6912 .bf16) (harg8 : arg8.IsWhole) (arg9 : Memref sig .tc .vmem S256x2560 .i8)
  (harg9 : arg9.IsWhole) (arg10 : Memref sig .tc .vmem S2x128 .f32) (harg10 : arg10.IsWhole) (arg11 : Memref sig .tc
  .vmem S256x6912 .i8) (harg11 : arg11.IsWhole) (arg12 : Memref sig .tc .vmem S2x128 .f32) (harg12 : arg12.IsWhole)
  (arg13 : Memref sig .tc .vmem S640x6912 .i8) (harg13 : arg13.IsWhole) (arg14 : Memref sig .tc .vmem S640x6912 .i8)
  (harg14 : arg14.IsWhole) (arg15 : Memref sig .tc .vmem S1728x2560 .i8) (harg15 : arg15.IsWhole) (arg16 : Memref sig
  .tc .vmem S256x2560 .bf16) (harg16 : arg16.IsWhole) (arg17 : Memref sig .tc .vmem S256x6912 .bf16) (harg17 :
  arg17.IsWhole) (arg18 : Memref sig .tc .vmem S256x6912 .f32) (harg18 : arg18.IsWhole) (arg19 : Memref sig .tc .vmem
  S256x128 .f32) (harg19 : arg19.IsWhole) (arg20 : Memref sig .tc .vmem S3x256x128 .f32) (harg20 : arg20.IsWhole)
  (arg21 : DmaSems sig S3)

variable (X_arg0 : BufTy.Contents (Elt Ideal) arg0.view.ty) (X_arg1 : BufTy.Contents (Elt Ideal) arg1.view.ty)
  (X : Fin 256 → Fin 2560 → EReal) (G : Fin 2560 → EReal)
  (hX : ∀ i l, arg0.view.read (Elt Ideal) X_arg0 (ix2 i l) = X i l)
  (hG : ∀ l, arg1.view.read (Elt Ideal) X_arg1 (ix2 0 l) = G l)

theorem trip1_lt (k : Fin k0_t1_loop.trips) : k.val < 8 := Nat.lt_of_lt_of_le k.isLt k0_t1_abs.2.1

/-- Row `i` of trip `k`. -/
def row1 (k : Fin k0_t1_loop.trips) (i : Fin 32) : Fin 256 := ⟨32 * k.val + i.val, by have := trip1_lt k; omega⟩

include hX in
theorem xBlock_apply (k : Fin k0_t1_loop.trips) (j : Fin 20) (i : Fin 32) (l : Fin 128) :
    xBlock arg0 X_arg0 k j (ix2 i l) = X (row1 k i) ⟨128 * j.val + l.val, lane20 j l⟩ := by
  rw [← hX]
  exact congrArg (arg0.view.read (Elt Ideal) X_arg0)
    (place2 _ _ _ _ _ _ (by rw [k0_off1_eq]; rfl) rfl)

/-- A lane's place in the weights' row order, block by block. -/
theorem order_lane (j : ℕ) (l : Fin 128) (J : ℕ) (h : J = 128 * j + l.val) : 128 * j + order l.val = order J := by
  subst h
  rw [order_mod (128 * j + l.val)]
  congr 2 <;> omega

include hG in
theorem gBlock_apply (j : Fin 20) (l : Fin 128) :
    gBlock arg1 X_arg1 j (ix2 0 l) = G ⟨128 * j.val + l.val, lane20 j l⟩ := by
  rw [← hG]
  exact congrArg (arg1.view.read (Elt Ideal) X_arg1) (place2 _ _ _ _ _ _ rfl rfl)

include hX hG in
/-- The codes. -/
theorem loop1_codes (n : ℕ) (h : n ≤ k0_t1_loop.trips) :
    Agree (s := S256x2560) (fun y => code n2560 (X (y 0)) G (y 1)) (pb_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 n).1 := by
  refine agree_trips _ (fun n => (pb_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 n).1) _ rfl
    (fun k => congrArg (·.1) (pb_k0_t1_succ (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k)) (fun k => ?_) n h
  rw [show (tripL_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k).1 = _ from trip1_codes 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k]
  refine agree_ofFn _ _ fun j => tile2 (e := .i8) (M := 256) (N := 2560) (m := 32) (n := 128) (fun I J => code n2560 (X I) G J) _ (inb_rows k j) _ fun i l I J hI hJ => ?_
  refine (pay37_apply _ _ _).trans ?_
  rw [scaled_apply _ _ (fun i => X (row1 k i)) G (xBlock_apply arg0 X_arg0 X hX k) (gBlock_apply arg1 X_arg1 G hG)]
  obtain rfl : I = row1 k i := Fin.ext (by rw [hI, k0_off1_eq]; rfl)
  rw [show J = ⟨128 * j.val + l.val, lane20 j l⟩ from Fin.ext hJ]
  rfl

include hX hG in
/-- The codes in the weights' row order, read as numbers. -/
theorem loop1_permuted (n : ℕ) (h : n ≤ k0_t1_loop.trips) :
    Agree (s := S256x2560) (fun y => real (code n2560 (X (y 0)) G ⟨order (y 1).val, order_lt rfl (y 1).isLt⟩))
      (pb_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 n).2.1 := by
  refine agree_trips _ (fun n => (pb_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 n).2.1) _ rfl
    (fun k => congrArg (·.2.1) (pb_k0_t1_succ (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k)) (fun k => ?_) n h
  rw [show (tripL_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k).2.1 = _ from trip1_permuted 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k]
  refine agree_ofFn _ _ fun j => tile2 (e := .bf16) (M := 256) (N := 2560) (m := 32) (n := 128) (fun I J => real (code n2560 (X I) G ⟨order J.val, order_lt rfl J.isLt⟩)) _ (inb_rows k j) _
    fun i l I J hI hJ => ?_
  refine (pay38_apply _ _ _).trans ?_
  rw [scaled_apply _ _ (fun i => X (row1 k i)) G (xBlock_apply arg0 X_arg0 X hX k) (gBlock_apply arg1 X_arg1 G hG)]
  obtain rfl : I = row1 k i := Fin.ext (by rw [hI, k0_off1_eq]; rfl)
  exact congrArg (fun q => real (code n2560 (X (row1 k i)) G q)) (Fin.ext (order_lane j.val l J.val hJ))

include hX hG in
/-- The scales. -/
theorem loop1_scales (n : ℕ) (h : n ≤ k0_t1_loop.trips) :
    Agree (s := S256x128) (fun y => scale n2560 (X (y 0)) G) (pb_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 n).2.2 := by
  refine agree_trips _ (fun n => (pb_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 n).2.2) _ rfl
    (fun k => congrArg (·.2.2) (pb_k0_t1_succ (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k)) (fun k => ?_) n h
  rw [show (tripL_k0_t1 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k).2.2 = _ from trip1_scales 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 X_arg0 X_arg1 k]
  refine agree_one _ _ _ (tile2 (e := .f32) (M := 256) (N := 128) (m := 32) (n := 128) (fun I _ => scale n2560 (X I) G) _ (k0_off21_inb k) _ fun i l I J hI _ => ?_)
  rw [scaleLanes_apply _ _ (fun i => X (row1 k i)) G (xBlock_apply arg0 X_arg0 X hX k) (gBlock_apply arg1 X_arg1 G hG)]
  obtain rfl : I = row1 k i := Fin.ext (by rw [hI, k0_off21_eq]; rfl)
  rfl

end Cert.KernelIdeal.Gen
-- ==== Proof.Trip2.lean ====
/- What a trip over the gate and up column tiles writes and carries, in terms of the tile arithmetic of `Tiles`. -/
module

public import proofs.«01_k».proof.Proof.Tiles
public import Idealize.ShloMosaic.Lib.Tactic
import all proofs.«01_k».proof.Proof.Gen.KernelIdeal.Loops

@[expose] public section

set_option maxRecDepth 100000

noncomputable section

namespace Cert.KernelIdeal.Gen

open Idealize.ShloMosaic Idealize.ShloMosaic.TcCoe Idealize.ShloMosaic.Tactic
open Idealize.SL Idealize.SL.Sem

theorem inb_words (k : Fin k0_t2_loop.trips) (j : Fin 20) :
    ∀ a, (![32 * j.val, k0_off22 k 1] : Fin 2 → Nat) a + S32x256.size a ≤ S640x6912.size a := by
  have hk : k.val < 27 := Nat.lt_of_lt_of_le k.isLt k0_t2_abs.2.1
  rw [k0_off22_eq]
  intro a
  match a with
  | ⟨0, _⟩ => show 32 * j.val + 32 ≤ 640; omega
  | ⟨1, _⟩ => show 256 * k.val + 256 ≤ 6912; omega

variable (𝒱 : Variants) (c : Dev nD) (bd : Option 𝒱.V) (arg0 : Memref sig .tc .vmem S256x2560 .bf16) (harg0 : arg0.IsWhole)
  (arg1 : Memref sig .tc .vmem S1x2560 .f32) (harg1 : arg1.IsWhole) (arg2 : Memref sig .tc .vmem S1x6912 .f32) (harg2
  : arg2.IsWhole) (arg3 : Memref sig .tc .smem S3 .f32) (harg3 : arg3.IsWhole) (arg4 : Memref sig .tc .hbm S640x6912
  .i8) (harg4 : arg4.IsWhole) (arg5 : Memref sig .tc .hbm S640x6912 .i8) (harg5 : arg5.IsWhole) (arg6 : Memref sig .tc
  .hbm S1728x2560 .i8) (harg6 : arg6.IsWhole) (arg7 : Memref sig .tc .vmem S256x2560 .bf16) (harg7 : arg7.IsWhole)
  (arg8 : Memref sig .tc .vmem S256x6912 .bf16) (harg8 : arg8.IsWhole) (arg9 : Memref sig .tc .vmem S256x2560 .i8)
  (harg9 : arg9.IsWhole) (arg10 : Memref sig .tc .vmem S2x128 .f32) (harg10 : arg10.IsWhole) (arg11 : Memref sig .tc
  .vmem S256x6912 .i8) (harg11 : arg11.IsWhole) (arg12 : Memref sig .tc .vmem S2x128 .f32) (harg12 : arg12.IsWhole)
  (arg13 : Memref sig .tc .vmem S640x6912 .i8) (harg13 : arg13.IsWhole) (arg14 : Memref sig .tc .vmem S640x6912 .i8)
  (harg14 : arg14.IsWhole) (arg15 : Memref sig .tc .vmem S1728x2560 .i8) (harg15 : arg15.IsWhole) (arg16 : Memref sig
  .tc .vmem S256x2560 .bf16) (harg16 : arg16.IsWhole) (arg17 : Memref sig .tc .vmem S256x6912 .bf16) (harg17 :
  arg17.IsWhole) (arg18 : Memref sig .tc .vmem S256x6912 .f32) (harg18 : arg18.IsWhole) (arg19 : Memref sig .tc .vmem
  S256x128 .f32) (harg19 : arg19.IsWhole) (arg20 : Memref sig .tc .vmem S3x256x128 .f32) (harg20 : arg20.IsWhole)
  (arg21 : DmaSems sig S3)

/-- The packed tiles of a gate or up weight that trip `k` loads. -/
def wBlock (arg13 : Memref sig .tc .vmem S640x6912 .i8) (X : BufTy.Contents (Elt Ideal) arg13.view.ty) (k : Fin k0_t2_loop.trips)
    (j : Fin 20) : Vec Ideal S32x256 .i8 :=
  View.readAt (Elt Ideal) arg13.view (Rect.unit (s := S640x6912) ![32 * j.val, k0_off22 k 1] S32x256.size (inb_words k j)).toLoadRect X

/-- A gate or up column tile, from the buffers trip `k` reads. -/
def projTile (arg13 : Memref sig .tc .vmem S640x6912 .i8) (arg16 : Memref sig .tc .vmem S256x2560 .bf16)
    (arg19 : Memref sig .tc .vmem S256x128 .f32) (w : Ideal .f32) (X_w : BufTy.Contents (Elt Ideal) arg13.view.ty)
    (X_q : BufTy.Contents (Elt Ideal) arg16.view.ty) (X_s : BufTy.Contents (Elt Ideal) arg19.view.ty)
    (k : Fin k0_t2_loop.trips) : FVec Ideal S256x256 .f32 :=
  project (View.readAt (Elt Ideal) arg16.view (Rect.unit ![0, 0] S256x2560.size inb_S256x2560_S256x2560_0_0).toLoadRect X_q)
    (wBlock arg13 X_w k)
    (View.readAt (Elt Ideal) arg19.view (Rect.unit ![0, 0] S256x128.size inb_S256x128_S256x128_0_0).toLoadRect X_s) w

variable (v28 v29 : Elt Ideal .f32) (v31 : FVec Ideal S256x128 .f32) (z : BitVec 32) (X_arg2 : BufTy.Contents (Elt Ideal) arg2.view.ty)
  (X_arg13 : BufTy.Contents (Elt Ideal) arg13.view.ty) (X_arg14 : BufTy.Contents (Elt Ideal) arg14.view.ty)
  (X_arg16 : BufTy.Contents (Elt Ideal) arg16.view.ty) (X_arg19 : BufTy.Contents (Elt Ideal) arg19.view.ty)

/-- The activation tile of trip `k`: the gate's positive part squared, times the up projection. -/
def actTile (arg13 arg14 : Memref sig .tc .vmem S640x6912 .i8) (arg16 : Memref sig .tc .vmem S256x2560 .bf16)
    (arg19 : Memref sig .tc .vmem S256x128 .f32) (v28 v29 : Elt Ideal .f32)
    (X_arg13 : BufTy.Contents (Elt Ideal) arg13.view.ty) (X_arg14 : BufTy.Contents (Elt Ideal) arg14.view.ty)
    (X_arg16 : BufTy.Contents (Elt Ideal) arg16.view.ty) (X_arg19 : BufTy.Contents (Elt Ideal) arg19.view.ty)
    (k : Fin k0_t2_loop.trips) : FVec Ideal S256x256 .f32 :=
  k0_pay758 (projTile arg13 arg16 arg19 v28 X_arg13 X_arg16 X_arg19 k) (projTile arg14 arg16 arg19 v29 X_arg14 X_arg16 X_arg19 k)
    (Scalar.ofBits .f32 0x00000000#32)

/-- What trip `k` makes of the two carried vectors: the running sum of squares and the running maximum. -/
theorem trip2_carry (k : Fin k0_t2_loop.trips) (acc : FVec Ideal S256x128 .f32 × FVec Ideal S256x128 .f32) :
    (trip_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 k).1 acc
      = (k0_pay761 acc.1 (projTile arg13 arg16 arg19 v28 X_arg13 X_arg16 X_arg19 k)
          (projTile arg14 arg16 arg19 v29 X_arg14 X_arg16 X_arg19 k) (Scalar.ofBits .f32 0x00000000#32),
        k0_pay762 acc.2 (projTile arg13 arg16 arg19 v28 X_arg13 X_arg16 X_arg19 k)
          (projTile arg14 arg16 arg19 v29 X_arg14 X_arg16 X_arg19 k) (Scalar.ofBits .f32 0x00000000#32)
          (View.readAt (Elt Ideal) arg2.view (Rect.unit (s := S1x6912) (k0_off43 k) S1x256.size (k0_off43_inb k)).toLoadRect X_arg2)) := by
  sl_kernel_rfl

/-- Trip `k` writes one column tile of the activation result. -/
theorem trip2_out (k : Fin k0_t2_loop.trips) (acc : FVec Ideal S256x128 .f32 × FVec Ideal S256x128 .f32) :
    (trip_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 k).2.1 acc
      = [⟨Rect.unit (s := S256x6912) (k0_off42 k) S256x256.size (k0_off42_inb k),
          truncf .bf16 (actTile arg13 arg14 arg16 arg19 v28 v29 X_arg13 X_arg14 X_arg16 X_arg19 k) bitsLt_bf16_f32⟩] := by
  sl_kernel_rfl

/-- Trip `k` keeps the same column tile in the scratch buffer. -/
theorem trip2_kept (k : Fin k0_t2_loop.trips) (acc : FVec Ideal S256x128 .f32 × FVec Ideal S256x128 .f32) :
    (trip_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 k).2.2.1 acc
      = [⟨Rect.unit (s := S256x6912) (k0_off42 k) S256x256.size (k0_off42_inb k),
          shapeCast S256x256 (actTile arg13 arg14 arg16 arg19 v28 v29 X_arg13 X_arg14 X_arg16 X_arg19 k)
            shapeCasts_S256x256_S256x256⟩] := by
  sl_kernel_rfl

end Cert.KernelIdeal.Gen
-- ==== Proof.EvalActs.lean ====
/- The activation's running sums, its normalisation and its quantiser, read entry by entry. -/
module

public import proofs.«01_k».proof.Proof.EvalRows

@[expose] public section

set_option maxRecDepth 16384

noncomputable section

namespace Cert.KernelIdeal.Gen

open Idealize.ShloMosaic Idealize.ShloMosaic.TcCoe Ffn

/-- The activation: the gate's positive part squared, times the up projection. -/
theorem act_apply (g u : FVec Ideal S256x256 .f32) (z : Ideal .f32) (hz : z = 0) (i l : Fin 256) :
    k0_pay758 g u z (ix2 i l)
      = max (g (ix2 i l)) 0 * max (g (ix2 i l)) 0 * u (ix2 i l) := by
  pointwise [k0_pay758]
  rw [hz]

theorem sumCarry_apply (acc : FVec Ideal S256x128 .f32) (g u : FVec Ideal S256x256 .f32) (z : Ideal .f32) (i : Fin 256) (l : Fin 128)
    (a b : EReal) (ha : k0_pay758 g u z (ix2 i ⟨l.val, by omega⟩) = a)
    (hb : k0_pay758 g u z (ix2 i ⟨128 + l.val, by omega⟩) = b) :
    k0_pay761 acc g u z (ix2 i l) = acc (ix2 i l) + (a * a + b * b) := by
  pointwise [k0_pay761]
  rw [ha, hb, add_assoc]

theorem maxCarry_apply (acc : FVec Ideal S256x128 .f32) (g u : FVec Ideal S256x256 .f32) (z : Ideal .f32) (gs : Vec Ideal S1x256 .f32)
    (i : Fin 256) (l : Fin 128)
    (a b : EReal) (ha : k0_pay758 g u z (ix2 i ⟨l.val, by omega⟩) = a)
    (hb : k0_pay758 g u z (ix2 i ⟨128 + l.val, by omega⟩) = b) :
    k0_pay762 acc g u z gs (ix2 i l)
      = max (acc (ix2 i l)) (max (max (a * gs (ix2 0 ⟨l.val, by omega⟩)) (-(a * gs (ix2 0 ⟨l.val, by omega⟩))))
          (max (b * gs (ix2 0 ⟨128 + l.val, by omega⟩)) (-(b * gs (ix2 0 ⟨128 + l.val, by omega⟩))))) := by
  pointwise [k0_pay762]
  rw [ha, hb, Ideal.absf_def, Ideal.absf_def]

theorem laneLow (k : Fin 27) (l : Fin 128) : 256 * k.val + l.val < 6912 := by omega

theorem laneHigh (k : Fin 27) (l : Fin 128) : 256 * k.val + (128 + l.val) < 6912 := by omega

section
variable (ss mx : FVec Ideal S256x128 .f32) (A : Fin 256 → Fin 6912 → EReal) (G : Fin 6912 → EReal)
  (hss : ∀ (i : Fin 256) (l : Fin 128), ss (ix2 i l) = ∑ k : Fin 27,
    (A i ⟨256 * k.val + l.val, laneLow k l⟩ * A i ⟨256 * k.val + l.val, laneLow k l⟩
      + A i ⟨256 * k.val + (128 + l.val), laneHigh k l⟩ * A i ⟨256 * k.val + (128 + l.val), laneHigh k l⟩))
  (hmx : ∀ (i : Fin 256) (l : Fin 128) (t : EReal), mx (ix2 i l) ≤ t ↔ 0 ≤ t ∧ ∀ k : Fin 27,
    max (A i ⟨256 * k.val + l.val, laneLow k l⟩ * G ⟨256 * k.val + l.val, laneLow k l⟩)
      (-(A i ⟨256 * k.val + l.val, laneLow k l⟩ * G ⟨256 * k.val + l.val, laneLow k l⟩)) ≤ t
    ∧ max (A i ⟨256 * k.val + (128 + l.val), laneHigh k l⟩ * G ⟨256 * k.val + (128 + l.val), laneHigh k l⟩)
      (-(A i ⟨256 * k.val + (128 + l.val), laneHigh k l⟩ * G ⟨256 * k.val + (128 + l.val), laneHigh k l⟩)) ≤ t)

include hss in
theorem pay763_apply (i : Fin 256) : k0_pay763 ss (ix2 i 0) = rinv n6912 (A i) := by
  pointwise [k0_pay763]
  simp only [hss]
  rw [rinv, sum_pairs]
  rfl

include hss hmx in
theorem pay764_apply (i : Fin 256) : k0_pay764 ss mx (ix2 i 0) = scale n6912 (A i) G := by
  have hr := pay763_apply ss A hss i
  pointwise [k0_pay764]
  rw [hr, bits_127, bits_bot]
  rw [largest_pairs (fun c => A i c * G c) _ (hmx i), ← largest_normed]
  rfl

include hss in
theorem pay765_apply (i : Fin 256) (l : Fin 128) : k0_pay765 ss (ix3 0 i l) = rinv n6912 (A i) := by
  have hr := pay763_apply ss A hss i
  pointwise [k0_pay765]
  exact hr

include hss hmx in
theorem pay766_apply (i : Fin 256) (l : Fin 128) : k0_pay766 ss mx (ix3 0 i l) = Ideal.div 1 (scale n6912 (A i) G) := by
  have hs := pay764_apply ss mx A G hss hmx i
  pointwise [k0_pay766]
  rw [hs]

include hss hmx in
theorem pay767_apply (i : Fin 256) (l : Fin 128) : k0_pay767 ss mx (ix3 0 i l) = scale n6912 (A i) G := by
  have hs := pay764_apply ss mx A G hss hmx i
  pointwise [k0_pay767]
  exact hs

end

/-- The second quantiser's argument. -/
theorem scaled2_apply (a : Vec Ideal S32x128 .f32) (r inv : Vec Ideal S1x32x128 .f32) (g : Vec Ideal S1x128 .f32)
    (i : Fin 32) (l : Fin 128) (A G : Fin 6912 → EReal) (c : Fin 6912) (ha : a (ix2 i l) = A c) (hg : g (ix2 0 l) = G c)
    (hr : r (ix3 0 i l) = rinv n6912 A) (hi : inv (ix3 0 i l) = Ideal.div 1 (scale n6912 A G)) :
    scaled2 a r inv g (ix2 i l) = Ideal.div (normed n6912 A G c) (scale n6912 A G) := by
  rw [← mul_recip _ (scale n6912 A G) (scaleOf_ne_zero _), normed]
  pointwise [scaled2, gain]
  rw [ha, hg, hr, hi]

/-- A sum that keeps the diagonal entry only. -/
theorem sum_diag (v : Fin 128 → EReal) (l : Fin 128) :
    ∑ x : Fin 128, Scalar.select (IntOp.cmpi .eq (BitVec.ofNat 32 x.val) (BitVec.ofNat 32 l.val)) (v x) 0 = v l := by
  have h : ∀ x l : Fin 128, IntOp.cmpi .eq (BitVec.ofNat 32 x.val) (BitVec.ofNat 32 l.val) = if x = l then 1#1 else 0#1 := by
    decide +kernel
  simp only [h]
  rw [Finset.sum_eq_single l]
  · simp [Scalar.select]
  · intro b _ hb; simp [Scalar.select, hb]
  · simp

/-- The diagonal of a square block, read as a row. -/
theorem pay1_apply (v : Vec Ideal S1x128x128 .f32) (l : Fin 128) :
    k0_pay1 k0_pay770 v (ix2 0 l) = v (ix3 0 l l) := by
  pointwise [k0_pay1, k0_pay770]
  exact sum_diag (fun x => v (ix3 0 x l)) l

theorem pay772_apply (v : Vec Ideal S1x128x128 .f32) (l : Fin 128) : k0_pay772 v (ix2 0 l) = v (ix3 0 l l) := by
  pointwise [k0_pay772, k0_pay770]
  exact sum_diag (fun x => v (ix3 0 x l)) l

theorem pay771_apply (v : Vec Ideal S128x128 .f32) (l : Fin 128) : k0_pay771 v (ix2 0 l) = v (ix2 l l) := by
  pointwise [k0_pay771, k0_pay770]
  exact sum_diag (fun x => v (ix2 x l)) l

theorem pay773_apply (v : Vec Ideal S128x128 .f32) (l : Fin 128) : k0_pay773 v (ix2 0 l) = v (ix2 l l) := by
  pointwise [k0_pay773, k0_pay770]
  exact sum_diag (fun x => v (ix2 x l)) l

end Cert.KernelIdeal.Gen
-- ==== Proof.Read2.lean ====
/- What the second loop writes: the activation, twice, and the two vectors it carries, from which the rows' second scales come. -/
module

public import proofs.«01_k».proof.Proof.Read
public import proofs.«01_k».proof.Proof.Trip2
public import proofs.«01_k».proof.Proof.EvalActs
public import proofs.«01_k».proof.Proof.EvalWeights
public import Idealize.ShloMosaic.Lib.Tactic
import all proofs.«01_k».proof.Proof.Gen.KernelIdeal.Loops

@[expose] public section

set_option maxRecDepth 100000

noncomputable section

namespace Cert.KernelIdeal.Gen

open Idealize.ShloMosaic Idealize.ShloMosaic.TcCoe Idealize.ShloMosaic.Tactic
open Idealize.SL Idealize.SL.Sem
open Ffn

variable (𝒱 : Variants) (c : Dev nD) (bd : Option 𝒱.V) (arg0 : Memref sig .tc .vmem S256x2560 .bf16) (harg0 : arg0.IsWhole)
  (arg1 : Memref sig .tc .vmem S1x2560 .f32) (harg1 : arg1.IsWhole) (arg2 : Memref sig .tc .vmem S1x6912 .f32) (harg2
  : arg2.IsWhole) (arg3 : Memref sig .tc .smem S3 .f32) (harg3 : arg3.IsWhole) (arg4 : Memref sig .tc .hbm S640x6912
  .i8) (harg4 : arg4.IsWhole) (arg5 : Memref sig .tc .hbm S640x6912 .i8) (harg5 : arg5.IsWhole) (arg6 : Memref sig .tc
  .hbm S1728x2560 .i8) (harg6 : arg6.IsWhole) (arg7 : Memref sig .tc .vmem S256x2560 .bf16) (harg7 : arg7.IsWhole)
  (arg8 : Memref sig .tc .vmem S256x6912 .bf16) (harg8 : arg8.IsWhole) (arg9 : Memref sig .tc .vmem S256x2560 .i8)
  (harg9 : arg9.IsWhole) (arg10 : Memref sig .tc .vmem S2x128 .f32) (harg10 : arg10.IsWhole) (arg11 : Memref sig .tc
  .vmem S256x6912 .i8) (harg11 : arg11.IsWhole) (arg12 : Memref sig .tc .vmem S2x128 .f32) (harg12 : arg12.IsWhole)
  (arg13 : Memref sig .tc .vmem S640x6912 .i8) (harg13 : arg13.IsWhole) (arg14 : Memref sig .tc .vmem S640x6912 .i8)
  (harg14 : arg14.IsWhole) (arg15 : Memref sig .tc .vmem S1728x2560 .i8) (harg15 : arg15.IsWhole) (arg16 : Memref sig
  .tc .vmem S256x2560 .bf16) (harg16 : arg16.IsWhole) (arg17 : Memref sig .tc .vmem S256x6912 .bf16) (harg17 :
  arg17.IsWhole) (arg18 : Memref sig .tc .vmem S256x6912 .f32) (harg18 : arg18.IsWhole) (arg19 : Memref sig .tc .vmem
  S256x128 .f32) (harg19 : arg19.IsWhole) (arg20 : Memref sig .tc .vmem S3x256x128 .f32) (harg20 : arg20.IsWhole)
  (arg21 : DmaSems sig S3)

theorem trips2 : k0_t2_loop.trips = 27 := by rfl

theorem trip2_lt (k : Fin k0_t2_loop.trips) : k.val < 27 := Nat.lt_of_lt_of_le k.isLt k0_t2_abs.2.1

theorem col2_lt (k : Fin k0_t2_loop.trips) (l : Fin 256) : 256 * k.val + l.val < 6912 := by have := trip2_lt k; omega

/-- Column `l` of tile `k`. -/
def col2 (k : Fin k0_t2_loop.trips) (l : Fin 256) : Fin 6912 := ⟨256 * k.val + l.val, col2_lt k l⟩

theorem row640 (j : Fin 20) (i : Fin 32) : 32 * j.val + i.val < 640 := by omega

section
variable (arg13 arg14 : Memref sig .tc .vmem S640x6912 .i8) (arg16 : Memref sig .tc .vmem S256x2560 .bf16)
  (arg19 : Memref sig .tc .vmem S256x128 .f32)
  (X_w : BufTy.Contents (Elt Ideal) arg13.view.ty) (X_w' : BufTy.Contents (Elt Ideal) arg14.view.ty)
  (X_q : BufTy.Contents (Elt Ideal) arg16.view.ty) (X_s : BufTy.Contents (Elt Ideal) arg19.view.ty)
  (X : Fin 256 → Fin 2560 → EReal) (G : Fin 2560 → EReal) (W W' : Fin 640 → Fin 6912 → BitVec 8)
  (hw : ∀ b l, arg13.view.read (Elt Ideal) X_w (ix2 b l) = W b l) (hT : ∀ b l, Ternary (W b l))
  (hw' : ∀ b l, arg14.view.read (Elt Ideal) X_w' (ix2 b l) = W' b l) (hT' : ∀ b l, Ternary (W' b l))
  (hq : ∀ i (ρ : Fin 2560), arg16.view.read (Elt Ideal) X_q (ix2 i ρ) = real (code n2560 (X i) G ⟨order ρ.val, order_lt rfl ρ.isLt⟩))
  (hs : ∀ i l, arg19.view.read (Elt Ideal) X_s (ix2 i l) = scale n2560 (X i) G)

include hw in
theorem wBlock_apply (k : Fin k0_t2_loop.trips) (j : Fin 20) (i : Fin 32) (l : Fin 256) :
    wBlock arg13 X_w k j (ix2 i l) = W ⟨32 * j.val + i.val, row640 j i⟩ (col2 k l) := by
  rw [← hw]
  exact congrArg (arg13.view.read (Elt Ideal) X_w) (place2 _ _ _ _ _ _ rfl (by rw [k0_off22_eq]; rfl))

include hw hT hq hs in
/-- A column tile of a projection. -/
theorem projTile_apply (w : Ideal .f32) (k : Fin k0_t2_loop.trips) (i l : Fin 256) :
    projTile arg13 arg16 arg19 w X_w X_q X_s k (ix2 i l) = proj (X i) G (fun b => W b (col2 k l)) w := by
  refine project_apply _ _ _ w (fun i => scale n2560 (X i) G) (fun i => code n2560 (X i) G) (fun l b => W b (col2 k l))
    (fun i ρ => ?_) (fun i l => ?_) (fun j x => ?_) (fun j i l => wBlock_apply arg13 X_w W hw k j i l) i l
  · rw [← hq]
    exact congrArg (arg16.view.read (Elt Ideal) X_q) (place2 _ _ _ _ _ _ (Nat.zero_add _).symm (Nat.zero_add _).symm)
  · rw [← hs i l]
    exact congrArg (arg19.view.read (Elt Ideal) X_s) (place2 _ _ _ _ _ _ (Nat.zero_add _).symm (Nat.zero_add _).symm)
  · obtain ⟨a, b, rfl⟩ : ∃ (a : Fin 32) (b : Fin 256), x = ix2 a b := ⟨x 0, x 1, eq_ix2 x⟩
    rw [wBlock_apply arg13 X_w W hw]
    exact hT _ _

theorem zero_bits : (Scalar.ofBits .f32 0x00000000#32 : Ideal .f32) = 0 := by
  show Ideal.ofBits .f32 0x00000000#32 = 0
  simp [Ideal.ofBits, Ideal.ieee]

include hw hT hw' hT' hq hs in
/-- A column tile of the activation. -/
theorem actTile_apply (sg su : Ideal .f32) (k : Fin k0_t2_loop.trips) (i l : Fin 256) :
    actTile arg13 arg14 arg16 arg19 sg su X_w X_w' X_q X_s k (ix2 i l) = act (X i) G W W' sg su (col2 k l) := by
  refine (act_apply _ _ _ zero_bits i l).trans ?_
  rw [projTile_apply arg13 arg16 arg19 X_w X_q X_s X G W hw hT hq hs, projTile_apply arg14 arg16 arg19 X_w' X_q X_s X G W' hw' hT' hq hs]
  rfl
end

variable (v28 v29 : Elt Ideal .f32) (v31 : FVec Ideal S256x128 .f32) (z : BitVec 32) (X_arg2 : BufTy.Contents (Elt Ideal) arg2.view.ty)
  (X_arg13 : BufTy.Contents (Elt Ideal) arg13.view.ty) (X_arg14 : BufTy.Contents (Elt Ideal) arg14.view.ty)
  (X_arg16 : BufTy.Contents (Elt Ideal) arg16.view.ty) (X_arg19 : BufTy.Contents (Elt Ideal) arg19.view.ty)
  (init : FVec Ideal S256x128 .f32 × FVec Ideal S256x128 .f32)
  (X : Fin 256 → Fin 2560 → EReal) (G : Fin 2560 → EReal) (W W' : Fin 640 → Fin 6912 → BitVec 8) (G2 : Fin 6912 → EReal)
  (hw : ∀ b l, arg13.view.read (Elt Ideal) X_arg13 (ix2 b l) = W b l) (hT : ∀ b l, Ternary (W b l))
  (hw' : ∀ b l, arg14.view.read (Elt Ideal) X_arg14 (ix2 b l) = W' b l) (hT' : ∀ b l, Ternary (W' b l))
  (hq : ∀ i (ρ : Fin 2560), arg16.view.read (Elt Ideal) X_arg16 (ix2 i ρ) = real (code n2560 (X i) G ⟨order ρ.val, order_lt rfl ρ.isLt⟩))
  (hs : ∀ i l, arg19.view.read (Elt Ideal) X_arg19 (ix2 i l) = scale n2560 (X i) G)
  (hG : ∀ l, arg2.view.read (Elt Ideal) X_arg2 (ix2 0 l) = G2 l)

include hw hT hw' hT' hq hs in
/-- The activation result. -/
theorem loop2_out (n : ℕ) (h : n ≤ k0_t2_loop.trips) :
    Agree (s := S256x6912) (fun y => act (X (y 0)) G W W' v28 v29 (y 1)) (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 init n).2.1 := by
  refine agree_trips _ (fun n => (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 init n).2.1) _ rfl
    (fun k => congrArg (·.2.1) (st_k0_t2_succ (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 init k)) (fun k => ?_) n h
  generalize (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 init k.val).1 = acc
  rw [show (tripL_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 k acc).1 = _ from trip2_out 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 k acc]
  refine agree_one _ _ _ (tile2 (e := .bf16) (M := 256) (N := 6912) (m := 256) (n := 256) (fun I J => act (X I) G W W' v28 v29 J) _
    (k0_off42_inb k) _ fun i l I J hI hJ => ?_)
  refine (actTile_apply arg13 arg14 arg16 arg19 X_arg13 X_arg14 X_arg16 X_arg19 X G W W' hw hT hw' hT' hq hs v28 v29 k i l).trans ?_
  obtain rfl : I = i := Fin.ext (by rw [hI, k0_off42_eq]; exact Nat.zero_add _)
  rw [show J = col2 k l from Fin.ext (by rw [hJ, k0_off42_eq]; rfl)]

include hw hT hw' hT' hq hs in
/-- The activation kept for the second quantisation. -/
theorem loop2_kept (n : ℕ) (h : n ≤ k0_t2_loop.trips) :
    Agree (s := S256x6912) (fun y => act (X (y 0)) G W W' v28 v29 (y 1)) (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 init n).2.2 := by
  refine agree_trips _ (fun n => (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 init n).2.2) _ rfl
    (fun k => congrArg (·.2.2) (st_k0_t2_succ (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 init k)) (fun k => ?_) n h
  generalize (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 init k.val).1 = acc
  rw [show (tripL_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 k acc).2 = _ from trip2_kept 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 k acc]
  refine agree_one _ _ _ (tile2 (e := .f32) (M := 256) (N := 6912) (m := 256) (n := 256) (fun I J => act (X I) G W W' v28 v29 J) _
    (k0_off42_inb k) _ fun i l I J hI hJ => ?_)
  refine Eq.trans (by pointwise) ((actTile_apply arg13 arg14 arg16 arg19 X_arg13 X_arg14 X_arg16 X_arg19 X G W W' hw hT hw' hT' hq hs v28 v29 k i l).trans ?_)
  obtain rfl : I = i := Fin.ext (by rw [hI, k0_off42_eq]; exact Nat.zero_add _)
  rw [show J = col2 k l from Fin.ext (by rw [hJ, k0_off42_eq]; rfl)]

theorem start_apply (i : Fin 256) (l : Fin 128) : (k0_pay757 : FVec Ideal S256x128 .f32) (ix2 i l) = 0 := by
  pointwise [k0_pay757]

theorem low_lt (l : Fin 128) : l.val < 256 := by omega

theorem high_lt (l : Fin 128) : 128 + l.val < 256 := by omega

include hw hT hw' hT' hq hs in
/-- The carried sums of squares. -/
theorem loop2_sums (i : Fin 256) (l : Fin 128) (n : ℕ) (h : n ≤ 27) :
    (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 (k0_pay757, k0_pay757) n).1.1 (ix2 i l) = ∑ k : Fin n,
      (act (X i) G W W' v28 v29 ⟨256 * k.val + l.val, laneLow (k.castLE h) l⟩ * act (X i) G W W' v28 v29 ⟨256 * k.val + l.val, laneLow (k.castLE h) l⟩
        + act (X i) G W W' v28 v29 ⟨256 * k.val + (128 + l.val), laneHigh (k.castLE h) l⟩
          * act (X i) G W W' v28 v29 ⟨256 * k.val + (128 + l.val), laneHigh (k.castLE h) l⟩) := by
  induction n with
  | zero => rw [Finset.univ_eq_empty, Finset.sum_empty]; exact start_apply i l
  | succ n ih =>
    have hn : n < k0_t2_loop.trips := by rw [trips2]; omega
    rw [st_k0_t2_succ (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 (k0_pay757, k0_pay757) ⟨n, hn⟩, Fin.sum_univ_castSucc]
    have ih' := ih (by omega)
    revert ih'
    generalize (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 (k0_pay757, k0_pay757) n).1 = acc
    intro ih'
    rw [show (tripR_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 ⟨n, hn⟩ acc) = _ from trip2_carry 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 ⟨n, hn⟩ acc]
    have hA := actTile_apply arg13 arg14 arg16 arg19 X_arg13 X_arg14 X_arg16 X_arg19 X G W W' hw hT hw' hT' hq hs v28 v29 ⟨n, hn⟩ i
    refine (sumCarry_apply _ _ _ _ i l _ _ (hA ⟨l.val, low_lt l⟩) (hA ⟨128 + l.val, high_lt l⟩)).trans ?_
    rw [ih']
    rfl

include hw hT hw' hT' hq hs hG in
/-- The carried maxima. -/
theorem loop2_max (i : Fin 256) (l : Fin 128) (t : EReal) (n : ℕ) (h : n ≤ 27) :
    (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 (k0_pay757, k0_pay757) n).1.2 (ix2 i l) ≤ t ↔ 0 ≤ t ∧ ∀ k : Fin 27, k.val < n →
      max (act (X i) G W W' v28 v29 ⟨256 * k.val + l.val, laneLow k l⟩ * G2 ⟨256 * k.val + l.val, laneLow k l⟩)
        (-(act (X i) G W W' v28 v29 ⟨256 * k.val + l.val, laneLow k l⟩ * G2 ⟨256 * k.val + l.val, laneLow k l⟩)) ≤ t
      ∧ max (act (X i) G W W' v28 v29 ⟨256 * k.val + (128 + l.val), laneHigh k l⟩ * G2 ⟨256 * k.val + (128 + l.val), laneHigh k l⟩)
        (-(act (X i) G W W' v28 v29 ⟨256 * k.val + (128 + l.val), laneHigh k l⟩ * G2 ⟨256 * k.val + (128 + l.val), laneHigh k l⟩)) ≤ t := by
  induction n with
  | zero =>
    rw [show (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 (k0_pay757, k0_pay757) 0).1.2 (ix2 i l) = 0 from start_apply i l]
    exact ⟨fun h => ⟨h, fun _ h => absurd h (Nat.not_lt_zero _)⟩, fun h => h.1⟩
  | succ n ih =>
    have hn : n < k0_t2_loop.trips := by rw [trips2]; omega
    rw [st_k0_t2_succ (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 (k0_pay757, k0_pay757) ⟨n, hn⟩]
    have ih' := ih (by omega)
    revert ih'
    generalize (st_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 (k0_pay757, k0_pay757) n).1 = acc
    intro ih'
    rw [show (tripR_k0_t2 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 ⟨n, hn⟩ acc) = _ from trip2_carry 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v28 v29 v31 z X_arg2 X_arg13 X_arg14 X_arg16 X_arg19 ⟨n, hn⟩ acc]
    have hA := actTile_apply arg13 arg14 arg16 arg19 X_arg13 X_arg14 X_arg16 X_arg19 X G W W' hw hT hw' hT' hq hs v28 v29 ⟨n, hn⟩ i
    have hg : ∀ l : Fin 256, View.readAt (Elt Ideal) arg2.view (Rect.unit (s := S1x6912) (k0_off43 ⟨n, hn⟩) S1x256.size (k0_off43_inb ⟨n, hn⟩)).toLoadRect X_arg2
        (ix2 0 l) = G2 (col2 ⟨n, hn⟩ l) := fun l => by
      rw [← hG]
      exact congrArg (arg2.view.read (Elt Ideal) X_arg2) (place2 _ _ _ _ _ _ (by rw [k0_off43_eq]; rfl) (by rw [k0_off43_eq]; rfl))
    have hm := maxCarry_apply acc.2 _ _ _ (View.readAt (Elt Ideal) arg2.view (Rect.unit (s := S1x6912) (k0_off43 ⟨n, hn⟩) S1x256.size (k0_off43_inb ⟨n, hn⟩)).toLoadRect X_arg2)
      i l _ _ (hA ⟨l.val, low_lt l⟩) (hA ⟨128 + l.val, high_lt l⟩)
    rw [hg, hg] at hm
    refine (iff_of_eq (congrArg (· ≤ t) hm)).trans ?_
    rw [max_le_iff, max_le_iff, ih', and_assoc]
    refine and_congr_right fun _ => ⟨fun ⟨H, h1⟩ k hk => ?_, fun H => ⟨fun k hk => H k (by omega), H ⟨n, by omega⟩ (Nat.lt_succ_self n)⟩⟩
    rcases Nat.lt_succ_iff_lt_or_eq.1 hk with h2 | h2
    · exact H k h2
    · rw [show k = ⟨n, h⟩ from Fin.ext h2]
      exact h1

end Cert.KernelIdeal.Gen
-- ==== Proof.Trip3.lean ====
/- What a trip of the second quantisation writes, in terms of the block arithmetic of `Tiles`. -/
module

public import proofs.«01_k».proof.Proof.Tiles
public import Idealize.ShloMosaic.Lib.Tactic
import all proofs.«01_k».proof.Proof.Gen.KernelIdeal.Loops

@[expose] public section

set_option maxRecDepth 100000

noncomputable section

namespace Cert.KernelIdeal.Gen

open Idealize.ShloMosaic Idealize.ShloMosaic.TcCoe Idealize.ShloMosaic.Tactic
open Idealize.SL Idealize.SL.Sem

theorem inb_cols (k : Fin k0_t3_loop.trips) (j : Fin 54) :
    ∀ a, (![k0_off44 k 1, 128 * j.val] : Fin 2 → Nat) a + S32x128.size a ≤ S256x6912.size a := by
  have hk : k.val < 8 := Nat.lt_of_lt_of_le k.isLt k0_t3_abs.2.1
  rw [k0_off44_eq]
  intro a
  match a with
  | ⟨0, _⟩ => show 32 * k.val + 32 ≤ 256; omega
  | ⟨1, _⟩ => show 128 * j.val + 128 ≤ 6912; omega

theorem inb_gain2 (j : Fin 54) : ∀ a, (![0, 128 * j.val] : Fin 2 → Nat) a + S1x128.size a ≤ S1x6912.size a := by
  intro a
  match a with
  | ⟨0, _⟩ => show 0 + 1 ≤ 1; omega
  | ⟨1, _⟩ => show 128 * j.val + 128 ≤ 6912; omega

variable (𝒱 : Variants) (c : Dev nD) (bd : Option 𝒱.V) (arg0 : Memref sig .tc .vmem S256x2560 .bf16) (harg0 : arg0.IsWhole)
  (arg1 : Memref sig .tc .vmem S1x2560 .f32) (harg1 : arg1.IsWhole) (arg2 : Memref sig .tc .vmem S1x6912 .f32) (harg2
  : arg2.IsWhole) (arg3 : Memref sig .tc .smem S3 .f32) (harg3 : arg3.IsWhole) (arg4 : Memref sig .tc .hbm S640x6912
  .i8) (harg4 : arg4.IsWhole) (arg5 : Memref sig .tc .hbm S640x6912 .i8) (harg5 : arg5.IsWhole) (arg6 : Memref sig .tc
  .hbm S1728x2560 .i8) (harg6 : arg6.IsWhole) (arg7 : Memref sig .tc .vmem S256x2560 .bf16) (harg7 : arg7.IsWhole)
  (arg8 : Memref sig .tc .vmem S256x6912 .bf16) (harg8 : arg8.IsWhole) (arg9 : Memref sig .tc .vmem S256x2560 .i8)
  (harg9 : arg9.IsWhole) (arg10 : Memref sig .tc .vmem S2x128 .f32) (harg10 : arg10.IsWhole) (arg11 : Memref sig .tc
  .vmem S256x6912 .i8) (harg11 : arg11.IsWhole) (arg12 : Memref sig .tc .vmem S2x128 .f32) (harg12 : arg12.IsWhole)
  (arg13 : Memref sig .tc .vmem S640x6912 .i8) (harg13 : arg13.IsWhole) (arg14 : Memref sig .tc .vmem S640x6912 .i8)
  (harg14 : arg14.IsWhole) (arg15 : Memref sig .tc .vmem S1728x2560 .i8) (harg15 : arg15.IsWhole) (arg16 : Memref sig
  .tc .vmem S256x2560 .bf16) (harg16 : arg16.IsWhole) (arg17 : Memref sig .tc .vmem S256x6912 .bf16) (harg17 :
  arg17.IsWhole) (arg18 : Memref sig .tc .vmem S256x6912 .f32) (harg18 : arg18.IsWhole) (arg19 : Memref sig .tc .vmem
  S256x128 .f32) (harg19 : arg19.IsWhole) (arg20 : Memref sig .tc .vmem S3x256x128 .f32) (harg20 : arg20.IsWhole)
  (arg21 : DmaSems sig S3)

variable (v20 : IVec S8x128 32) (v30 : Elt Ideal .f32) (v68 : FVec Ideal S1x256x128 .f32) (X_arg2 : BufTy.Contents (Elt Ideal) arg2.view.ty)
  (X_arg18 : BufTy.Contents (Elt Ideal) arg18.view.ty) (X_arg20 : BufTy.Contents (Elt Ideal) arg20.view.ty)

/-- Block `j` of the second quantisation's trip `k`, normalised and divided by the scale. -/
def scaledBlock2 (arg2 : Memref sig .tc .vmem S1x6912 .f32) (arg18 : Memref sig .tc .vmem S256x6912 .f32)
    (arg20 : Memref sig .tc .vmem S3x256x128 .f32) (X_arg2 : BufTy.Contents (Elt Ideal) arg2.view.ty)
    (X_arg18 : BufTy.Contents (Elt Ideal) arg18.view.ty) (X_arg20 : BufTy.Contents (Elt Ideal) arg20.view.ty)
    (k : Fin k0_t3_loop.trips) (j : Fin 54) : FVec Ideal S32x128 .f32 :=
  scaled2
    (View.readAt (Elt Ideal) arg18.view (Rect.unit (s := S256x6912) ![k0_off44 k 1, 128 * j.val] S32x128.size (inb_cols k j)).toLoadRect X_arg18)
    (View.readAt (Elt Ideal) arg20.view (Rect.unit (s := S3x256x128) (k0_off44 k) S1x32x128.size (k0_off44_inb k)).toLoadRect X_arg20)
    (View.readAt (Elt Ideal) arg20.view (Rect.unit (s := S3x256x128) (k0_off45 k) S1x32x128.size (k0_off45_inb k)).toLoadRect X_arg20)
    (View.readAt (Elt Ideal) arg2.view (Rect.unit (s := S1x6912) ![0, 128 * j.val] S1x128.size (inb_gain2 j)).toLoadRect X_arg2)

/-- Trip `k` of the second quantisation writes 54 blocks of codes. -/
theorem trip3_codes (k : Fin k0_t3_loop.trips) :
    (trip_k0_t3 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v20 v30 v68 X_arg2 X_arg18 X_arg20 k).1
      = (List.ofFn fun j : Fin 54 => (⟨Rect.unit (s := S256x6912) ![k0_off44 k 1, 128 * j.val] S32x128.size (inb_cols k j),
          k0_pay37 (scaledBlock2 arg2 arg18 arg20 X_arg2 X_arg18 X_arg20 k j)⟩ : View.Piece (Elt Ideal) S256x6912 .i8)).reverse := by
  sl_kernel_rfl

/-- Trip `k` of the second quantisation writes 54 blocks of codes in the unpacked weights' row order. -/
theorem trip3_permuted (k : Fin k0_t3_loop.trips) :
    (trip_k0_t3 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v20 v30 v68 X_arg2 X_arg18 X_arg20 k).2.1
      = (List.ofFn fun j : Fin 54 => (⟨Rect.unit (s := S256x6912) ![k0_off44 k 1, 128 * j.val] S32x128.size (inb_cols k j),
          k0_pay38 v20 (scaledBlock2 arg2 arg18 arg20 X_arg2 X_arg18 X_arg20 k j)⟩ : View.Piece (Elt Ideal) S256x6912 .bf16)).reverse := by
  sl_kernel_rfl

end Cert.KernelIdeal.Gen
-- ==== Proof.Read3.lean ====
/- What the third loop writes: the codes of the activation's rows, and the same in the weights' row order. -/
module

public import proofs.«01_k».proof.Proof.Read
public import proofs.«01_k».proof.Proof.Trip3
public import proofs.«01_k».proof.Proof.Read1
public import proofs.«01_k».proof.Proof.EvalRows
public import proofs.«01_k».proof.Proof.EvalActs
public import proofs.«01_k».proof.Proof.EvalWeights
public import Idealize.ShloMosaic.Lib.Tactic
import all proofs.«01_k».proof.Proof.Gen.KernelIdeal.Loops

@[expose] public section

set_option maxRecDepth 100000

noncomputable section

namespace Cert.KernelIdeal.Gen

open Idealize.ShloMosaic Idealize.ShloMosaic.TcCoe Idealize.ShloMosaic.Tactic
open Idealize.SL Idealize.SL.Sem
open Ffn

variable (𝒱 : Variants) (c : Dev nD) (bd : Option 𝒱.V) (arg0 : Memref sig .tc .vmem S256x2560 .bf16) (harg0 : arg0.IsWhole)
  (arg1 : Memref sig .tc .vmem S1x2560 .f32) (harg1 : arg1.IsWhole) (arg2 : Memref sig .tc .vmem S1x6912 .f32) (harg2
  : arg2.IsWhole) (arg3 : Memref sig .tc .smem S3 .f32) (harg3 : arg3.IsWhole) (arg4 : Memref sig .tc .hbm S640x6912
  .i8) (harg4 : arg4.IsWhole) (arg5 : Memref sig .tc .hbm S640x6912 .i8) (harg5 : arg5.IsWhole) (arg6 : Memref sig .tc
  .hbm S1728x2560 .i8) (harg6 : arg6.IsWhole) (arg7 : Memref sig .tc .vmem S256x2560 .bf16) (harg7 : arg7.IsWhole)
  (arg8 : Memref sig .tc .vmem S256x6912 .bf16) (harg8 : arg8.IsWhole) (arg9 : Memref sig .tc .vmem S256x2560 .i8)
  (harg9 : arg9.IsWhole) (arg10 : Memref sig .tc .vmem S2x128 .f32) (harg10 : arg10.IsWhole) (arg11 : Memref sig .tc
  .vmem S256x6912 .i8) (harg11 : arg11.IsWhole) (arg12 : Memref sig .tc .vmem S2x128 .f32) (harg12 : arg12.IsWhole)
  (arg13 : Memref sig .tc .vmem S640x6912 .i8) (harg13 : arg13.IsWhole) (arg14 : Memref sig .tc .vmem S640x6912 .i8)
  (harg14 : arg14.IsWhole) (arg15 : Memref sig .tc .vmem S1728x2560 .i8) (harg15 : arg15.IsWhole) (arg16 : Memref sig
  .tc .vmem S256x2560 .bf16) (harg16 : arg16.IsWhole) (arg17 : Memref sig .tc .vmem S256x6912 .bf16) (harg17 :
  arg17.IsWhole) (arg18 : Memref sig .tc .vmem S256x6912 .f32) (harg18 : arg18.IsWhole) (arg19 : Memref sig .tc .vmem
  S256x128 .f32) (harg19 : arg19.IsWhole) (arg20 : Memref sig .tc .vmem S3x256x128 .f32) (harg20 : arg20.IsWhole)
  (arg21 : DmaSems sig S3)

variable (v30 : Elt Ideal .f32) (v68 : FVec Ideal S1x256x128 .f32) (X_arg2 : BufTy.Contents (Elt Ideal) arg2.view.ty)
  (X_arg18 : BufTy.Contents (Elt Ideal) arg18.view.ty) (X_arg20 : BufTy.Contents (Elt Ideal) arg20.view.ty)
  (A : Fin 256 → Fin 6912 → EReal) (G : Fin 6912 → EReal)
  (hG : ∀ l, arg2.view.read (Elt Ideal) X_arg2 (ix2 0 l) = G l)
  (hA : ∀ i l, arg18.view.read (Elt Ideal) X_arg18 (ix2 i l) = A i l)
  (hr : ∀ i l, arg20.view.read (Elt Ideal) X_arg20 (ix3 0 i l) = rinv n6912 (A i))
  (hi : ∀ i l, arg20.view.read (Elt Ideal) X_arg20 (ix3 1 i l) = Ideal.div 1 (scale n6912 (A i) G))

theorem trip3_lt (k : Fin k0_t3_loop.trips) : k.val < 8 := Nat.lt_of_lt_of_le k.isLt k0_t3_abs.2.1

theorem row3_lt (k : Fin k0_t3_loop.trips) (i : Fin 32) : 32 * k.val + i.val < 256 := by have := trip3_lt k; omega

/-- Row `i` of trip `k`. -/
def row3 (k : Fin k0_t3_loop.trips) (i : Fin 32) : Fin 256 := ⟨32 * k.val + i.val, row3_lt k i⟩

theorem lane54 (j : Fin 54) (l : Fin 128) : 128 * j.val + l.val < 6912 := by omega

include hG hA hr hi in
/-- A block of the quantiser's argument. -/
theorem scaledBlock2_apply (k : Fin k0_t3_loop.trips) (j : Fin 54) (i : Fin 32) (l : Fin 128) :
    scaledBlock2 arg2 arg18 arg20 X_arg2 X_arg18 X_arg20 k j (ix2 i l)
      = Ideal.div (normed n6912 (A (row3 k i)) G ⟨128 * j.val + l.val, lane54 j l⟩) (scale n6912 (A (row3 k i)) G) := by
  refine scaled2_apply _ _ _ _ i l (A (row3 k i)) G ⟨128 * j.val + l.val, lane54 j l⟩ ?_ ?_ ?_ ?_
  · rw [← hA]
    exact congrArg (arg18.view.read (Elt Ideal) X_arg18) (place2 _ _ _ _ _ _ (by rw [k0_off44_eq]; rfl) rfl)
  · rw [← hG]
    exact congrArg (arg2.view.read (Elt Ideal) X_arg2) (place2 _ _ _ _ _ _ rfl rfl)
  · rw [← hr (row3 k i) l]
    exact congrArg (arg20.view.read (Elt Ideal) X_arg20)
      (place3 _ _ _ _ _ _ _ _ (by rw [k0_off44_eq]; rfl) (by rw [k0_off44_eq]; rfl) (by rw [k0_off44_eq]; exact (Nat.zero_add _).symm))
  · rw [← hi (row3 k i) l]
    exact congrArg (arg20.view.read (Elt Ideal) X_arg20)
      (place3 _ _ _ _ _ _ _ _ (by rw [k0_off45_eq]; rfl) (by rw [k0_off45_eq]; rfl) (by rw [k0_off45_eq]; exact (Nat.zero_add _).symm))

include hG hA hr hi in
/-- The codes. -/
theorem loop3_codes (n : ℕ) (h : n ≤ k0_t3_loop.trips) :
    Agree (s := S256x6912) (fun y => code n6912 (A (y 0)) G (y 1)) (pb_k0_t3 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 k0_pay755 v30 v68 X_arg2 X_arg18 X_arg20 n).1 := by
  refine agree_trips _ (fun n => (pb_k0_t3 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 k0_pay755 v30 v68 X_arg2 X_arg18 X_arg20 n).1) _ rfl
    (fun k => congrArg (·.1) (pb_k0_t3_succ (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 k0_pay755 v30 v68 X_arg2 X_arg18 X_arg20 k)) (fun k => ?_) n h
  rw [show (tripL_k0_t3 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 k0_pay755 v30 v68 X_arg2 X_arg18 X_arg20 k).1 = _ from trip3_codes 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 k0_pay755 v30 v68 X_arg2 X_arg18 X_arg20 k]
  refine agree_ofFn _ _ fun j => tile2 (e := .i8) (M := 256) (N := 6912) (m := 32) (n := 128) (fun I J => code n6912 (A I) G J) _
    (inb_cols k j) _ fun i l I J hI hJ => ?_
  refine (pay37_apply _ _ _).trans ?_
  rw [scaledBlock2_apply arg2 arg18 arg20 X_arg2 X_arg18 X_arg20 A G hG hA hr hi]
  obtain rfl : I = row3 k i := Fin.ext (by rw [hI, k0_off44_eq]; rfl)
  rw [show J = ⟨128 * j.val + l.val, lane54 j l⟩ from Fin.ext hJ]
  rfl

include hG hA hr hi in
/-- The codes in the weights' row order, read as numbers. -/
theorem loop3_permuted (n : ℕ) (h : n ≤ k0_t3_loop.trips) :
    Agree (s := S256x6912) (fun y => real (code n6912 (A (y 0)) G ⟨order (y 1).val, order_lt rfl (y 1).isLt⟩))
      (pb_k0_t3 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 k0_pay755 v30 v68 X_arg2 X_arg18 X_arg20 n).2 := by
  refine agree_trips _ (fun n => (pb_k0_t3 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 k0_pay755 v30 v68 X_arg2 X_arg18 X_arg20 n).2) _ rfl
    (fun k => congrArg (·.2) (pb_k0_t3_succ (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 k0_pay755 v30 v68 X_arg2 X_arg18 X_arg20 k)) (fun k => ?_) n h
  rw [show (tripL_k0_t3 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 k0_pay755 v30 v68 X_arg2 X_arg18 X_arg20 k).2 = _ from trip3_permuted 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 k0_pay755 v30 v68 X_arg2 X_arg18 X_arg20 k]
  refine agree_ofFn _ _ fun j => tile2 (e := .bf16) (M := 256) (N := 6912) (m := 32) (n := 128)
    (fun I J => real (code n6912 (A I) G ⟨order J.val, order_lt rfl J.isLt⟩)) _ (inb_cols k j) _ fun i l I J hI hJ => ?_
  refine (pay38_apply _ _ _).trans ?_
  rw [scaledBlock2_apply arg2 arg18 arg20 X_arg2 X_arg18 X_arg20 A G hG hA hr hi]
  obtain rfl : I = row3 k i := Fin.ext (by rw [hI, k0_off44_eq]; rfl)
  exact congrArg (fun q => real (code n6912 (A (row3 k i)) G q)) (Fin.ext (order_lane j.val l J.val hJ))

end Cert.KernelIdeal.Gen
-- ==== Proof.Trip4.lean ====
/- What a trip over the column tiles of the down projection writes, in terms of the tile arithmetic of `Tiles`. -/
module

public import proofs.«01_k».proof.Proof.Tiles
public import Idealize.ShloMosaic.Lib.Tactic
import all proofs.«01_k».proof.Proof.Gen.KernelIdeal.Loops

@[expose] public section

set_option maxRecDepth 100000

noncomputable section

namespace Cert.KernelIdeal.Gen

open Idealize.ShloMosaic Idealize.ShloMosaic.TcCoe Idealize.ShloMosaic.Tactic
open Idealize.SL Idealize.SL.Sem

theorem inb_wordsDown (k : Fin k0_t4_loop.trips) (j : Fin 54) :
    ∀ a, (![32 * j.val, k0_off154 k 1] : Fin 2 → Nat) a + S32x256.size a ≤ S1728x2560.size a := by
  have hk : k.val < 10 := Nat.lt_of_lt_of_le k.isLt k0_t4_abs.2.1
  rw [k0_off154_eq]
  intro a
  match a with
  | ⟨0, _⟩ => show 32 * j.val + 32 ≤ 1728; omega
  | ⟨1, _⟩ => show 256 * k.val + 256 ≤ 2560; omega

variable (𝒱 : Variants) (c : Dev nD) (bd : Option 𝒱.V) (arg0 : Memref sig .tc .vmem S256x2560 .bf16) (harg0 : arg0.IsWhole)
  (arg1 : Memref sig .tc .vmem S1x2560 .f32) (harg1 : arg1.IsWhole) (arg2 : Memref sig .tc .vmem S1x6912 .f32) (harg2
  : arg2.IsWhole) (arg3 : Memref sig .tc .smem S3 .f32) (harg3 : arg3.IsWhole) (arg4 : Memref sig .tc .hbm S640x6912
  .i8) (harg4 : arg4.IsWhole) (arg5 : Memref sig .tc .hbm S640x6912 .i8) (harg5 : arg5.IsWhole) (arg6 : Memref sig .tc
  .hbm S1728x2560 .i8) (harg6 : arg6.IsWhole) (arg7 : Memref sig .tc .vmem S256x2560 .bf16) (harg7 : arg7.IsWhole)
  (arg8 : Memref sig .tc .vmem S256x6912 .bf16) (harg8 : arg8.IsWhole) (arg9 : Memref sig .tc .vmem S256x2560 .i8)
  (harg9 : arg9.IsWhole) (arg10 : Memref sig .tc .vmem S2x128 .f32) (harg10 : arg10.IsWhole) (arg11 : Memref sig .tc
  .vmem S256x6912 .i8) (harg11 : arg11.IsWhole) (arg12 : Memref sig .tc .vmem S2x128 .f32) (harg12 : arg12.IsWhole)
  (arg13 : Memref sig .tc .vmem S640x6912 .i8) (harg13 : arg13.IsWhole) (arg14 : Memref sig .tc .vmem S640x6912 .i8)
  (harg14 : arg14.IsWhole) (arg15 : Memref sig .tc .vmem S1728x2560 .i8) (harg15 : arg15.IsWhole) (arg16 : Memref sig
  .tc .vmem S256x2560 .bf16) (harg16 : arg16.IsWhole) (arg17 : Memref sig .tc .vmem S256x6912 .bf16) (harg17 :
  arg17.IsWhole) (arg18 : Memref sig .tc .vmem S256x6912 .f32) (harg18 : arg18.IsWhole) (arg19 : Memref sig .tc .vmem
  S256x128 .f32) (harg19 : arg19.IsWhole) (arg20 : Memref sig .tc .vmem S3x256x128 .f32) (harg20 : arg20.IsWhole)
  (arg21 : DmaSems sig S3)

/-- The packed tiles of the down weight that trip `k` loads. -/
def wBlockDown (arg15 : Memref sig .tc .vmem S1728x2560 .i8) (X : BufTy.Contents (Elt Ideal) arg15.view.ty) (k : Fin k0_t4_loop.trips)
    (j : Fin 54) : Vec Ideal S32x256 .i8 :=
  View.readAt (Elt Ideal) arg15.view (Rect.unit (s := S1728x2560) ![32 * j.val, k0_off154 k 1] S32x256.size (inb_wordsDown k j)).toLoadRect X

variable (v20 : IVec S8x128 32) (v30 : Elt Ideal .f32) (v68 : FVec Ideal S1x256x128 .f32) (X_arg0 : BufTy.Contents (Elt Ideal) arg0.view.ty)
  (X_arg15 : BufTy.Contents (Elt Ideal) arg15.view.ty) (X_arg17 : BufTy.Contents (Elt Ideal) arg17.view.ty)
  (X_arg20 : BufTy.Contents (Elt Ideal) arg20.view.ty)

/-- Trip `k` over the down projection's column tiles writes one column tile of the result. -/
theorem trip4_out (k : Fin k0_t4_loop.trips) :
    (trip_k0_t4 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v20 v30 v68 X_arg0 X_arg15 X_arg17 X_arg20 k).1
      = [⟨Rect.unit (s := S256x2560) (k0_off154 k) S256x256.size (k0_off154_inb k),
          down v30 (View.readAt (Elt Ideal) arg17.view (Rect.unit ![0, 0] S256x6912.size inb_S256x6912_S256x6912_0_0).toLoadRect X_arg17)
            (wBlockDown arg15 X_arg15 k)
            (View.readAt (Elt Ideal) arg20.view (Rect.unit (s := S3x256x128) ![2, 0, 0] S1x256x128.size inb_S3x256x128_S1x256x128_2_0_0).toLoadRect X_arg20)
            (View.readAt (Elt Ideal) arg0.view (Rect.unit (s := S256x2560) (k0_off154 k) S256x256.size (k0_off154_inb k)).toLoadRect X_arg0)⟩] := by
  sl_kernel_rfl

end Cert.KernelIdeal.Gen
-- ==== Proof.Read4.lean ====
/- What the fourth loop writes: the result, `x` plus the down projection. -/
module

public import proofs.«01_k».proof.Proof.Read
public import proofs.«01_k».proof.Proof.Trip4
public import proofs.«01_k».proof.Proof.EvalWeights
public import Idealize.ShloMosaic.Lib.Tactic
import all proofs.«01_k».proof.Proof.Gen.KernelIdeal.Loops

@[expose] public section

set_option maxRecDepth 100000

noncomputable section

namespace Cert.KernelIdeal.Gen

open Idealize.ShloMosaic Idealize.ShloMosaic.TcCoe Idealize.ShloMosaic.Tactic
open Idealize.SL Idealize.SL.Sem
open Ffn

variable (𝒱 : Variants) (c : Dev nD) (bd : Option 𝒱.V) (arg0 : Memref sig .tc .vmem S256x2560 .bf16) (harg0 : arg0.IsWhole)
  (arg1 : Memref sig .tc .vmem S1x2560 .f32) (harg1 : arg1.IsWhole) (arg2 : Memref sig .tc .vmem S1x6912 .f32) (harg2
  : arg2.IsWhole) (arg3 : Memref sig .tc .smem S3 .f32) (harg3 : arg3.IsWhole) (arg4 : Memref sig .tc .hbm S640x6912
  .i8) (harg4 : arg4.IsWhole) (arg5 : Memref sig .tc .hbm S640x6912 .i8) (harg5 : arg5.IsWhole) (arg6 : Memref sig .tc
  .hbm S1728x2560 .i8) (harg6 : arg6.IsWhole) (arg7 : Memref sig .tc .vmem S256x2560 .bf16) (harg7 : arg7.IsWhole)
  (arg8 : Memref sig .tc .vmem S256x6912 .bf16) (harg8 : arg8.IsWhole) (arg9 : Memref sig .tc .vmem S256x2560 .i8)
  (harg9 : arg9.IsWhole) (arg10 : Memref sig .tc .vmem S2x128 .f32) (harg10 : arg10.IsWhole) (arg11 : Memref sig .tc
  .vmem S256x6912 .i8) (harg11 : arg11.IsWhole) (arg12 : Memref sig .tc .vmem S2x128 .f32) (harg12 : arg12.IsWhole)
  (arg13 : Memref sig .tc .vmem S640x6912 .i8) (harg13 : arg13.IsWhole) (arg14 : Memref sig .tc .vmem S640x6912 .i8)
  (harg14 : arg14.IsWhole) (arg15 : Memref sig .tc .vmem S1728x2560 .i8) (harg15 : arg15.IsWhole) (arg16 : Memref sig
  .tc .vmem S256x2560 .bf16) (harg16 : arg16.IsWhole) (arg17 : Memref sig .tc .vmem S256x6912 .bf16) (harg17 :
  arg17.IsWhole) (arg18 : Memref sig .tc .vmem S256x6912 .f32) (harg18 : arg18.IsWhole) (arg19 : Memref sig .tc .vmem
  S256x128 .f32) (harg19 : arg19.IsWhole) (arg20 : Memref sig .tc .vmem S3x256x128 .f32) (harg20 : arg20.IsWhole)
  (arg21 : DmaSems sig S3)

variable (v20 : IVec S8x128 32) (v30 : Elt Ideal .f32) (v68 : FVec Ideal S1x256x128 .f32) (X_arg0 : BufTy.Contents (Elt Ideal) arg0.view.ty)
  (X_arg15 : BufTy.Contents (Elt Ideal) arg15.view.ty) (X_arg17 : BufTy.Contents (Elt Ideal) arg17.view.ty)
  (X_arg20 : BufTy.Contents (Elt Ideal) arg20.view.ty)
  (X : Fin 256 → Fin 2560 → EReal) (A : Fin 256 → Fin 6912 → EReal) (G : Fin 6912 → EReal) (W : Fin 1728 → Fin 2560 → BitVec 8)
  (hX : ∀ i l, arg0.view.read (Elt Ideal) X_arg0 (ix2 i l) = X i l)
  (hw : ∀ b l, arg15.view.read (Elt Ideal) X_arg15 (ix2 b l) = W b l) (hT : ∀ b l, Ternary (W b l))
  (hq : ∀ i (ρ : Fin 6912), arg17.view.read (Elt Ideal) X_arg17 (ix2 i ρ) = real (code n6912 (A i) G ⟨order ρ.val, order_lt rfl ρ.isLt⟩))
  (hs : ∀ i l, arg20.view.read (Elt Ideal) X_arg20 (ix3 2 i l) = scale n6912 (A i) G)

theorem trip4_lt (k : Fin k0_t4_loop.trips) : k.val < 10 := Nat.lt_of_lt_of_le k.isLt k0_t4_abs.2.1

theorem col4_lt (k : Fin k0_t4_loop.trips) (l : Fin 256) : 256 * k.val + l.val < 2560 := by have := trip4_lt k; omega

/-- Column `l` of tile `k`. -/
def col4 (k : Fin k0_t4_loop.trips) (l : Fin 256) : Fin 2560 := ⟨256 * k.val + l.val, col4_lt k l⟩

theorem row1728 (j : Fin 54) (i : Fin 32) : 32 * j.val + i.val < 1728 := by omega

include hw in
theorem wBlockDown_apply (k : Fin k0_t4_loop.trips) (j : Fin 54) (i : Fin 32) (l : Fin 256) :
    wBlockDown arg15 X_arg15 k j (ix2 i l) = W ⟨32 * j.val + i.val, row1728 j i⟩ (col4 k l) := by
  rw [← hw]
  exact congrArg (arg15.view.read (Elt Ideal) X_arg15) (place2 _ _ _ _ _ _ rfl (by rw [k0_off154_eq]; rfl))

include hX hw hT hq hs in
/-- The result. -/
theorem loop4_out (n : ℕ) (h : n ≤ k0_t4_loop.trips) :
    Agree (s := S256x2560) (fun y => out (X (y 0) (y 1)) (A (y 0)) G (fun b => W b (y 1)) v30) (pb_k0_t4 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v20 v30 v68 X_arg0 X_arg15 X_arg17 X_arg20 n) := by
  refine agree_trips _ (fun n => pb_k0_t4 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v20 v30 v68 X_arg0 X_arg15 X_arg17 X_arg20 n) _ rfl
    (fun k => pb_k0_t4_succ (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v20 v30 v68 X_arg0 X_arg15 X_arg17 X_arg20 k) (fun k => ?_) n h
  rw [show tripL_k0_t4 (F := Ideal) 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v20 v30 v68 X_arg0 X_arg15 X_arg17 X_arg20 k = _ from trip4_out 𝒱 c bd arg0 harg0 arg1 harg1 arg2 harg2 arg3 harg3 arg4 harg4 arg5 harg5 arg6 harg6 arg7 harg7 arg8 harg8 arg9
        harg9 arg10 harg10 arg11 harg11 arg12 harg12 arg13 harg13 arg14 harg14 arg15 harg15 arg16 harg16 arg17 harg17
        arg18 harg18 arg19 harg19 arg20 harg20 arg21 v20 v30 v68 X_arg0 X_arg15 X_arg17 X_arg20 k]
  refine agree_one _ _ _ (tile2 (e := .bf16) (M := 256) (N := 2560) (m := 256) (n := 256)
    (fun I J => out (X I J) (A I) G (fun b => W b J) v30) _ (k0_off154_inb k) _ fun i l I J hI hJ => ?_)
  refine (down_apply v30 _ _ _ _ (fun i => scale n6912 (A i) G) (fun i => code n6912 (A i) G) (fun l b => W b (col4 k l))
    (fun i ρ => ?_) (fun i l => ?_) (fun j x => ?_) (fun j i l => wBlockDown_apply arg15 X_arg15 W hw k j i l) i l).trans ?_
  · rw [← hq]
    exact congrArg (arg17.view.read (Elt Ideal) X_arg17) (place2 _ _ _ _ _ _ (Nat.zero_add _).symm (Nat.zero_add _).symm)
  · rw [← hs i l]
    exact congrArg (arg20.view.read (Elt Ideal) X_arg20)
      (place3 _ _ _ _ _ _ _ _ rfl (Nat.zero_add _).symm (Nat.zero_add _).symm)
  · obtain ⟨a, b, rfl⟩ : ∃ (a : Fin 32) (b : Fin 256), x = ix2 a b := ⟨x 0, x 1, eq_ix2 x⟩
    rw [wBlockDown_apply arg15 X_arg15 W hw]
    exact hT _ _
  · obtain rfl : I = i := Fin.ext (by rw [hI, k0_off154_eq]; exact Nat.zero_add _)
    obtain rfl : J = col4 k l := Fin.ext (by rw [hJ, k0_off154_eq]; rfl)
    refine congrArg (· + _) ?_
    rw [← hX]
    exact congrArg (arg0.view.read (Elt Ideal) X_arg0) (place2 _ _ _ _ _ _ hI hJ)

end Cert.KernelIdeal.Gen
-- ==== Proof.Contents.lean ====
/- What the kernel's run leaves in each result, entry by entry: the buffers' contents one after the other, each read
   back through the stores that filled it. -/
module

public import proofs.«01_k».proof.Proof.Read1
public import proofs.«01_k».proof.Proof.Read2
public import proofs.«01_k».proof.Proof.Read3
public import proofs.«01_k».proof.Proof.Read4
public import proofs.«01_k».proof.Proof.FrameI
public import Idealize.ShloMosaic.Lib.Tactic
import all proofs.«01_k».proof.Proof.Gen.KernelIdeal.Loops
import all proofs.«01_k».proof.Proof.RunA

@[expose] public section

set_option maxRecDepth 100000

noncomputable section

namespace Cert.KernelIdeal.Gen

open Idealize.ShloMosaic Idealize.ShloMosaic.TcCoe Idealize.ShloMosaic.Tactic
open Idealize.SL Idealize.SL.Sem
open Ffn

variable (c : Dev nD) (arg0 : Memref sig .tc .vmem S256x2560 .bf16) (harg0 : arg0.IsWhole) (arg1 : Memref sig .tc
  .vmem S1x2560 .f32) (harg1 : arg1.IsWhole) (arg2 : Memref sig .tc .vmem S1x6912 .f32) (harg2 : arg2.IsWhole) (arg3 :
  Memref sig .tc .smem S3 .f32) (harg3 : arg3.IsWhole) (arg7 : Memref sig .tc .vmem S256x2560 .bf16) (harg7 :
  arg7.IsWhole) (arg8 : Memref sig .tc .vmem S256x6912 .bf16) (harg8 : arg8.IsWhole) (arg9 : Memref sig .tc .vmem
  S256x2560 .i8) (harg9 : arg9.IsWhole) (arg10 : Memref sig .tc .vmem S2x128 .f32) (harg10 : arg10.IsWhole) (arg11 :
  Memref sig .tc .vmem S256x6912 .i8) (harg11 : arg11.IsWhole) (arg12 : Memref sig .tc .vmem S2x128 .f32) (harg12 :
  arg12.IsWhole) (arg13 : Memref sig .tc .vmem S640x6912 .i8) (harg13 : arg13.IsWhole) (arg14 : Memref sig .tc .vmem
  S640x6912 .i8) (harg14 : arg14.IsWhole) (arg15 : Memref sig .tc .vmem S1728x2560 .i8) (harg15 : arg15.IsWhole)
  (arg16 : Memref sig .tc .vmem S256x2560 .bf16) (harg16 : arg16.IsWhole) (arg17 : Memref sig .tc .vmem S256x6912
  .bf16) (harg17 : arg17.IsWhole) (arg18 : Memref sig .tc .vmem S256x6912 .f32) (harg18 : arg18.IsWhole) (arg19 :
  Memref sig .tc .vmem S256x128 .f32) (harg19 : arg19.IsWhole) (arg20 : Memref sig .tc .vmem S3x256x128 .f32) (harg20
  : arg20.IsWhole) (x0 : Vec Ideal S256x2560 .bf16) (x1 : Vec Ideal S1x2560 .f32) (x2 : Vec Ideal S1x6912 .f32) (x3 :
  Vec Ideal S3 .f32) (fh0 : HbBuf0 (F := Ideal) c hbM0_0) (fh1 : HbBuf0 (F := Ideal) c hbM0_1) (fh2 : HbBuf0 (F :=
  Ideal) c hbM0_2)

/-- The gate's, up's and down's scales. -/
def gateScale : Ideal .f32 := View.readAt (Elt Ideal) arg3.view (Rect.unit (s := S3) ![0] S1.size inb_S3_S1_0).toLoadRect (harg3.unread x3) (Shape.Idx.first (by decide))
def upScale : Ideal .f32 := View.readAt (Elt Ideal) arg3.view (Rect.unit (s := S3) ![1] S1.size inb_S3_S1_1).toLoadRect (harg3.unread x3) (Shape.Idx.first (by decide))
def downScale : Ideal .f32 := View.readAt (Elt Ideal) arg3.view (Rect.unit (s := S3) ![2] S1.size inb_S3_S1_2).toLoadRect (harg3.unread x3) (Shape.Idx.first (by decide))

/-- The weights' buffers once copied. -/
def gateBuf : BufTy.Contents (Elt Ideal) arg13.view.ty :=
  arg13.view.writes (Elt Ideal) arg13.view.junk [⟨Rect.whole S640x6912, View.read (Elt Ideal) (Memref.whole main_arg2).view fh0⟩]
def upBuf : BufTy.Contents (Elt Ideal) arg14.view.ty :=
  arg14.view.writes (Elt Ideal) arg14.view.junk [⟨Rect.whole S640x6912, View.read (Elt Ideal) (Memref.whole main_arg4).view fh1⟩]
def downBuf : BufTy.Contents (Elt Ideal) arg15.view.ty :=
  arg15.view.writes (Elt Ideal) arg15.view.junk [⟨Rect.whole S1728x2560, View.read (Elt Ideal) (Memref.whole main_arg7).view fh2⟩]

/-- The first loop's stores, and the buffers they fill. -/
def pieces1 := pb_k0_t1 (F := Ideal) Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 (harg0.unread x0) (harg1.unread x1) k0_t1_loop.trips
def codesBuf : BufTy.Contents (Elt Ideal) arg16.view.ty := arg16.view.writes (Elt Ideal) arg16.view.junk (pieces1 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1).2.1
def scalesBuf : BufTy.Contents (Elt Ideal) arg19.view.ty := arg19.view.writes (Elt Ideal) arg19.view.junk (pieces1 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1).2.2

/-- The second loop's carried vectors and stores, and the buffer they fill. -/
def pieces2 := st_k0_t2 (F := Ideal) Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 (gateScale arg3 harg3 x3) (upScale arg3 harg3 x3) k0_pay757 0#32
  (harg2.unread x2) (gateBuf c arg13 fh0) (upBuf c arg14 fh1) (codesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (scalesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (k0_pay757, k0_pay757) k0_t2_loop.trips
def actsBuf : BufTy.Contents (Elt Ideal) arg18.view.ty := arg18.view.writes (Elt Ideal) arg18.view.junk (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).2.2

/-- The rows' second norms, reciprocal scales and scales. -/
def statsBuf : BufTy.Contents (Elt Ideal) arg20.view.ty := arg20.view.writes (Elt Ideal) arg20.view.junk
  [⟨Rect.unit (s := S3x256x128) ![2, 0, 0] S1x256x128.size inb_S3x256x128_S1x256x128_2_0_0, k0_pay767 (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.1 (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.2⟩,
   ⟨Rect.unit (s := S3x256x128) ![1, 0, 0] S1x256x128.size inb_S3x256x128_S1x256x128_1_0_0, k0_pay766 (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.1 (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.2⟩,
   ⟨Rect.unit (s := S3x256x128) ![0, 0, 0] S1x256x128.size inb_S3x256x128_S1x256x128_0_0_0, k0_pay765 (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.1⟩]

/-- The third loop's stores, and the buffer they fill. -/
def pieces3 := pb_k0_t3 (F := Ideal) Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 k0_pay755 (downScale arg3 harg3 x3) (k0_pay767 (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.1 (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.2)
  (harg2.unread x2) (actsBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1) (statsBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1) k0_t3_loop.trips
def codes2Buf : BufTy.Contents (Elt Ideal) arg17.view.ty := arg17.view.writes (Elt Ideal) arg17.view.junk (pieces3 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).2

/-- The fourth loop's stores. -/
def pieces4 := pb_k0_t4 (F := Ideal) Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 k0_pay755 (downScale arg3 harg3 x3) (k0_pay767 (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.1 (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.2)
  (harg0.unread x0) (downBuf c arg15 fh2) (codes2Buf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1) (statsBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1) k0_t4_loop.trips

theorem run_y : (kernelRun0_A (F := Ideal) c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2).1 = (pieces4 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1 fh2) := by sl_kernel_rfl

theorem run_act : (kernelRun0_A (F := Ideal) c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2).2.1 = (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).2.1 := by sl_kernel_rfl

theorem run_codes : (kernelRun0_A (F := Ideal) c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2).2.2.1 = (pieces1 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1).1 := by sl_kernel_rfl

theorem run_scales : (kernelRun0_A (F := Ideal) c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2).2.2.2.1 =
    [⟨Rect.unit (s := S2x128) ![1, 0] S1x128.size inb_S2x128_S1x128_1_0,
        k0_pay773 (View.readAt (Elt Ideal) arg19.view (Rect.unit (s := S256x128) ![128, 0] S128x128.size inb_S256x128_S128x128_128_0).toLoadRect (scalesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1))⟩,
     ⟨Rect.unit (s := S2x128) ![0, 0] S1x128.size inb_S2x128_S1x128_0_0,
        k0_pay771 (View.readAt (Elt Ideal) arg19.view (Rect.unit (s := S256x128) ![0, 0] S128x128.size inb_S256x128_S128x128_0_0).toLoadRect (scalesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1))⟩] := by sl_kernel_rfl

theorem run_codes2 : (kernelRun0_A (F := Ideal) c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2).2.2.2.2.1 = (pieces3 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1 := by sl_kernel_rfl

theorem run_scales2 : (kernelRun0_A (F := Ideal) c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2).2.2.2.2.2.1 =
    [⟨Rect.unit (s := S2x128) ![1, 0] S1x128.size inb_S2x128_S1x128_1_0,
        k0_pay1 k0_pay770 (View.readAt (Elt Ideal) arg20.view (Rect.unit (s := S3x256x128) ![2, 128, 0] S1x128x128.size inb_S3x256x128_S1x128x128_2_128_0).toLoadRect (statsBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1))⟩,
     ⟨Rect.unit (s := S2x128) ![0, 0] S1x128.size inb_S2x128_S1x128_0_0,
        k0_pay772 (View.readAt (Elt Ideal) arg20.view (Rect.unit (s := S3x256x128) ![2, 0, 0] S1x128x128.size inb_S3x256x128_S1x128x128_2_0_0).toLoadRect (statsBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1))⟩] := by sl_kernel_rfl

end Cert.KernelIdeal.Gen
-- ==== Proof.Results.lean ====
/- What the kernel's run leaves in each result, entry by entry: read back through the stores that filled it. -/
module

public import proofs.«01_k».proof.Proof.Contents
public import Idealize.ShloMosaic.Lib.Tactic
import all proofs.«01_k».proof.Proof.Gen.KernelIdeal.Loops
import all proofs.«01_k».proof.Proof.RunA

@[expose] public section

set_option maxRecDepth 100000

noncomputable section

namespace Cert.KernelIdeal.Gen

open Idealize.ShloMosaic Idealize.ShloMosaic.TcCoe Idealize.ShloMosaic.Tactic
open Idealize.SL Idealize.SL.Sem
open Ffn

/-- A matrix buffer's entries. -/
def read2 {sp : Space} {M N : ℕ} {e : EltTy} (m : Memref sig .tc sp ⟨2, ![M, N]⟩ e) (f : m.view.ty.Contents (Elt Ideal)) (i : Fin M) (l : Fin N) :
    Elt Ideal e := m.view.read (Elt Ideal) f (ix2 i l)

/-- A row of `x`, and the gains. -/
def rowX (x0 : Vec Ideal S256x2560 .bf16) (i : Fin 256) (l : Fin 2560) : EReal := x0 (ix2 i l)
def gain1 (x1 : Vec Ideal S1x2560 .f32) (l : Fin 2560) : EReal := x1 (ix2 0 l)
def gain2 (x2 : Vec Ideal S1x6912 .f32) (l : Fin 6912) : EReal := x2 (ix2 0 l)

variable (c : Dev nD) (arg0 : Memref sig .tc .vmem S256x2560 .bf16) (harg0 : arg0.IsWhole) (arg1 : Memref sig .tc
  .vmem S1x2560 .f32) (harg1 : arg1.IsWhole) (arg2 : Memref sig .tc .vmem S1x6912 .f32) (harg2 : arg2.IsWhole) (arg3 :
  Memref sig .tc .smem S3 .f32) (harg3 : arg3.IsWhole) (arg7 : Memref sig .tc .vmem S256x2560 .bf16) (harg7 :
  arg7.IsWhole) (arg8 : Memref sig .tc .vmem S256x6912 .bf16) (harg8 : arg8.IsWhole) (arg9 : Memref sig .tc .vmem
  S256x2560 .i8) (harg9 : arg9.IsWhole) (arg10 : Memref sig .tc .vmem S2x128 .f32) (harg10 : arg10.IsWhole) (arg11 :
  Memref sig .tc .vmem S256x6912 .i8) (harg11 : arg11.IsWhole) (arg12 : Memref sig .tc .vmem S2x128 .f32) (harg12 :
  arg12.IsWhole) (arg13 : Memref sig .tc .vmem S640x6912 .i8) (harg13 : arg13.IsWhole) (arg14 : Memref sig .tc .vmem
  S640x6912 .i8) (harg14 : arg14.IsWhole) (arg15 : Memref sig .tc .vmem S1728x2560 .i8) (harg15 : arg15.IsWhole)
  (arg16 : Memref sig .tc .vmem S256x2560 .bf16) (harg16 : arg16.IsWhole) (arg17 : Memref sig .tc .vmem S256x6912
  .bf16) (harg17 : arg17.IsWhole) (arg18 : Memref sig .tc .vmem S256x6912 .f32) (harg18 : arg18.IsWhole) (arg19 :
  Memref sig .tc .vmem S256x128 .f32) (harg19 : arg19.IsWhole) (arg20 : Memref sig .tc .vmem S3x256x128 .f32) (harg20
  : arg20.IsWhole) (x0 : Vec Ideal S256x2560 .bf16) (x1 : Vec Ideal S1x2560 .f32) (x2 : Vec Ideal S1x6912 .f32) (x3 :
  Vec Ideal S3 .f32) (fh0 : HbBuf0 (F := Ideal) c hbM0_0) (fh1 : HbBuf0 (F := Ideal) c hbM0_1) (fh2 : HbBuf0 (F :=
  Ideal) c hbM0_2)

/-- The row of a scale's place. -/
def row2 (h : Fin 2) (l : Fin 128) : Fin 256 := ⟨128 * h.val + l.val, by omega⟩

/-- The activation, row by row. -/
def acts (i : Fin 256) (l : Fin 6912) : EReal :=
  act (rowX x0 i) (gain1 x1) (read2 (Memref.whole main_arg2) fh0) (read2 (Memref.whole main_arg4) fh1) (x3 (ix1 0)) (x3 (ix1 1)) l

theorem gateScale_eq : gateScale arg3 harg3 x3 = x3 (ix1 0) :=
  (congrFun (harg3.read_unread x3) _).trans (congrArg x3 (funext fun a => Fin.ext (by match a with | ⟨0, _⟩ => rfl)))

theorem upScale_eq : upScale arg3 harg3 x3 = x3 (ix1 1) :=
  (congrFun (harg3.read_unread x3) _).trans (congrArg x3 (funext fun a => Fin.ext (by match a with | ⟨0, _⟩ => rfl)))

theorem downScale_eq : downScale arg3 harg3 x3 = x3 (ix1 2) :=
  (congrFun (harg3.read_unread x3) _).trans (congrArg x3 (funext fun a => Fin.ext (by match a with | ⟨0, _⟩ => rfl)))

theorem read_x (i : Fin 256) (l : Fin 2560) : arg0.view.read (Elt Ideal) (harg0.unread x0) (ix2 i l) = rowX x0 i l :=
  congrFun (harg0.read_unread x0) _

theorem read_g1 (l : Fin 2560) : arg1.view.read (Elt Ideal) (harg1.unread x1) (ix2 0 l) = gain1 x1 l :=
  congrFun (harg1.read_unread x1) _

theorem read_g2 (l : Fin 6912) : arg2.view.read (Elt Ideal) (harg2.unread x2) (ix2 0 l) = gain2 x2 l :=
  congrFun (harg2.read_unread x2) _

theorem read_gate (b : Fin 640) (l : Fin 6912) :
    arg13.view.read (Elt Ideal) (gateBuf c arg13 fh0) (ix2 b l) = read2 (Memref.whole main_arg2) fh0 b l := filled_whole _ _

theorem read_up (b : Fin 640) (l : Fin 6912) :
    arg14.view.read (Elt Ideal) (upBuf c arg14 fh1) (ix2 b l) = read2 (Memref.whole main_arg4) fh1 b l := filled_whole _ _

theorem read_down (b : Fin 1728) (l : Fin 2560) :
    arg15.view.read (Elt Ideal) (downBuf c arg15 fh2) (ix2 b l) = read2 (Memref.whole main_arg7) fh2 b l := filled_whole _ _

/-- The codes the projections take. -/
theorem read_codes (i : Fin 256) (ρ : Fin 2560) : arg16.view.read (Elt Ideal) (codesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (ix2 i ρ)
    = real (code n2560 (rowX x0 i) (gain1 x1) ⟨order ρ.val, order_lt rfl ρ.isLt⟩) :=
  filled (s := S256x2560) (e := .bf16) _ _ (loop1_permuted Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 _ _ (rowX x0) (gain1 x1) (read_x arg0 harg0 x0) (read_g1 arg1 harg1 x1) _ le_rfl) (ix2 i ρ)
    (View.cover_of_tiledL (Val := Elt Ideal) (s := S256x2560) (e := .bf16) _ S32x128.size (by sl_kernel_rfl) _)

/-- The rows' scales. -/
theorem read_scales (i : Fin 256) (l : Fin 128) : arg19.view.read (Elt Ideal) (scalesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (ix2 i l) = scale n2560 (rowX x0 i) (gain1 x1) :=
  filled (s := S256x128) (e := .f32) _ _ (loop1_scales Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 _ _ (rowX x0) (gain1 x1) (read_x arg0 harg0 x0) (read_g1 arg1 harg1 x1) _ le_rfl) (ix2 i l)
    (View.cover_of_tiledL (Val := Elt Ideal) (s := S256x128) (e := .f32) _ S32x128.size (by sl_kernel_rfl) _)

section
variable (hg : ∀ b l, Ternary (read2 (Memref.whole main_arg2) fh0 b l)) (hu : ∀ b l, Ternary (read2 (Memref.whole main_arg4) fh1 b l))

include hg hu in
/-- The activation's stores. -/
theorem pieces2_out : Agree (s := S256x6912) (fun y => acts c x0 x1 x3 fh0 fh1 (y 0) (y 1)) (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).2.1 := by
  have h := loop2_out Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 (gateScale arg3 harg3 x3) (upScale arg3 harg3 x3) k0_pay757 0#32
    (harg2.unread x2) (gateBuf c arg13 fh0) (upBuf c arg14 fh1) (codesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (scalesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (k0_pay757, k0_pay757)
    (rowX x0) (gain1 x1) _ _ (read_gate c arg13 fh0) hg (read_up c arg14 fh1) hu
    (read_codes c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (read_scales c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) k0_t2_loop.trips le_rfl
  rw [gateScale_eq, upScale_eq] at h
  rw [pieces2, gateScale_eq, upScale_eq]
  exact h

include hg hu in
/-- The activation kept for the second quantisation. -/
theorem read_acts (i : Fin 256) (l : Fin 6912) : arg18.view.read (Elt Ideal) (actsBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1) (ix2 i l) = acts c x0 x1 x3 fh0 fh1 i l := by
  have h := loop2_kept Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 (gateScale arg3 harg3 x3) (upScale arg3 harg3 x3) k0_pay757 0#32
    (harg2.unread x2) (gateBuf c arg13 fh0) (upBuf c arg14 fh1) (codesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (scalesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (k0_pay757, k0_pay757)
    (rowX x0) (gain1 x1) _ _ (read_gate c arg13 fh0) hg (read_up c arg14 fh1) hu
    (read_codes c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (read_scales c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) k0_t2_loop.trips le_rfl
  refine (filled (s := S256x6912) (e := .f32) _ _ h (ix2 i l) (View.cover_of_tiledL (Val := Elt Ideal) (s := S256x6912) (e := .f32) _ S256x256.size (by sl_kernel_rfl) _)).trans ?_
  rw [gateScale_eq, upScale_eq]
  rfl

include hg hu in
/-- The carried sums of squares. -/
theorem sums (i : Fin 256) (l : Fin 128) : (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.1 (ix2 i l) = ∑ k : Fin 27,
    (acts c x0 x1 x3 fh0 fh1 i ⟨256 * k.val + l.val, laneLow k l⟩ * acts c x0 x1 x3 fh0 fh1 i ⟨256 * k.val + l.val, laneLow k l⟩
      + acts c x0 x1 x3 fh0 fh1 i ⟨256 * k.val + (128 + l.val), laneHigh k l⟩ * acts c x0 x1 x3 fh0 fh1 i ⟨256 * k.val + (128 + l.val), laneHigh k l⟩) := by
  have h := loop2_sums Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 (gateScale arg3 harg3 x3) (upScale arg3 harg3 x3) k0_pay757 0#32
    (harg2.unread x2) (gateBuf c arg13 fh0) (upBuf c arg14 fh1) (codesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (scalesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1)
    (rowX x0) (gain1 x1) _ _ (read_gate c arg13 fh0) hg (read_up c arg14 fh1) hu
    (read_codes c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (read_scales c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) i l 27 le_rfl
  refine h.trans ?_
  rw [gateScale_eq, upScale_eq]
  rfl

include hg hu in
/-- The carried maxima. -/
theorem maxima (i : Fin 256) (l : Fin 128) (t : EReal) : (pieces2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).1.2 (ix2 i l) ≤ t ↔ 0 ≤ t ∧ ∀ k : Fin 27,
    max (acts c x0 x1 x3 fh0 fh1 i ⟨256 * k.val + l.val, laneLow k l⟩ * gain2 x2 ⟨256 * k.val + l.val, laneLow k l⟩)
      (-(acts c x0 x1 x3 fh0 fh1 i ⟨256 * k.val + l.val, laneLow k l⟩ * gain2 x2 ⟨256 * k.val + l.val, laneLow k l⟩)) ≤ t
    ∧ max (acts c x0 x1 x3 fh0 fh1 i ⟨256 * k.val + (128 + l.val), laneHigh k l⟩ * gain2 x2 ⟨256 * k.val + (128 + l.val), laneHigh k l⟩)
      (-(acts c x0 x1 x3 fh0 fh1 i ⟨256 * k.val + (128 + l.val), laneHigh k l⟩ * gain2 x2 ⟨256 * k.val + (128 + l.val), laneHigh k l⟩)) ≤ t := by
  have h := loop2_max Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 (gateScale arg3 harg3 x3) (upScale arg3 harg3 x3) k0_pay757 0#32
    (harg2.unread x2) (gateBuf c arg13 fh0) (upBuf c arg14 fh1) (codesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (scalesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1)
    (rowX x0) (gain1 x1) _ _ (gain2 x2) (read_gate c arg13 fh0) hg (read_up c arg14 fh1) hu
    (read_codes c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (read_scales c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1) (read_g2 arg2 harg2 x2) i l t 27 le_rfl
  refine Iff.trans h ?_
  rw [gateScale_eq, upScale_eq]
  exact and_congr_right fun _ => ⟨fun H k => H k k.isLt, fun H k _ => H k⟩

/-- What the statistics' buffer holds. -/
def stat (h : Fin 3) (i : Fin 256) : EReal := match h with
  | 0 => rinv n6912 (acts c x0 x1 x3 fh0 fh1 i)
  | 1 => Ideal.div 1 (scale n6912 (acts c x0 x1 x3 fh0 fh1 i) (gain2 x2))
  | 2 => scale n6912 (acts c x0 x1 x3 fh0 fh1 i) (gain2 x2)

include hg hu in
theorem read_stats (h : Fin 3) (i : Fin 256) (l : Fin 128) :
    arg20.view.read (Elt Ideal) (statsBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1) (ix3 h i l) = stat c x0 x1 x2 x3 fh0 fh1 h i := by
  have hs := sums c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu
  have hm := maxima c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu
  refine filled (s := S3x256x128) (e := .f32) (fun y => stat c x0 x1 x2 x3 fh0 fh1 (y 0) (y 1)) _ ?_ (ix3 h i l)
    (View.cover_of_tiledL (Val := Elt Ideal) (s := S3x256x128) (e := .f32) _ S1x256x128.size (by sl_kernel_rfl) _)
  refine agree_append _ [_] ([_] ++ [_]) (agree_one _ _ _ (tile3 (e := .f32) (K := 3) (M := 256) (N := 128) (k := 1) (m := 256) (n := 128)
      (fun h i _ => stat c x0 x1 x2 x3 fh0 fh1 h i) _ inb_S3x256x128_S1x256x128_2_0_0 _ fun o i l O I J hO hI hJ => ?_))
    (agree_append _ [_] [_] (agree_one _ _ _ (tile3 (e := .f32) (K := 3) (M := 256) (N := 128) (k := 1) (m := 256) (n := 128)
      (fun h i _ => stat c x0 x1 x2 x3 fh0 fh1 h i) _ inb_S3x256x128_S1x256x128_1_0_0 _ fun o i l O I J hO hI hJ => ?_))
     (agree_one _ _ _ (tile3 (e := .f32) (K := 3) (M := 256) (N := 128) (k := 1) (m := 256) (n := 128)
      (fun h i _ => stat c x0 x1 x2 x3 fh0 fh1 h i) _ inb_S3x256x128_S1x256x128_0_0_0 _ fun o i l O I J hO hI hJ => ?_)))
  · obtain rfl : O = 2 := Fin.ext (by rw [hO]; have := o.isLt; show 2 + o.val = 2; omega)
    obtain rfl : I = i := Fin.ext (hI.trans (Nat.zero_add _))
    obtain rfl : o = 0 := Subsingleton.elim _ _
    exact pay767_apply _ _ (acts c x0 x1 x3 fh0 fh1) (gain2 x2) hs hm I l
  · obtain rfl : O = 1 := Fin.ext (by rw [hO]; have := o.isLt; show 1 + o.val = 1; omega)
    obtain rfl : I = i := Fin.ext (hI.trans (Nat.zero_add _))
    obtain rfl : o = 0 := Subsingleton.elim _ _
    exact pay766_apply _ _ (acts c x0 x1 x3 fh0 fh1) (gain2 x2) hs hm I l
  · obtain rfl : O = 0 := Fin.ext (by rw [hO]; have := o.isLt; show 0 + o.val = 0; omega)
    obtain rfl : I = i := Fin.ext (hI.trans (Nat.zero_add _))
    obtain rfl : o = 0 := Subsingleton.elim _ _
    exact pay765_apply _ (acts c x0 x1 x3 fh0 fh1) hs I l

include hg hu in
/-- The second codes as the down projection takes them. -/
theorem read_codes2 (i : Fin 256) (ρ : Fin 6912) : arg17.view.read (Elt Ideal) (codes2Buf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1) (ix2 i ρ)
    = real (code n6912 (acts c x0 x1 x3 fh0 fh1 i) (gain2 x2) ⟨order ρ.val, order_lt rfl ρ.isLt⟩) := by
  have hc : ∃ p ∈ (pieces3 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).2, (ix2 i ρ : S256x6912.Idx) ∈ p.1.set := View.cover_of_tiledL (Val := Elt Ideal) (s := S256x6912) (e := .bf16) _ S32x128.size (by sl_kernel_rfl) _
  have hA : Agree (s := S256x6912) (e := .bf16) (fun y => real (code n6912 (acts c x0 x1 x3 fh0 fh1 (y 0)) (gain2 x2)
      ⟨order (y 1).val, order_lt rfl (y 1).isLt⟩)) (pieces3 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1).2 := by
    rw [pieces3]
    exact loop3_permuted Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 _ _ _ _ _ (acts c x0 x1 x3 fh0 fh1) (gain2 x2)
      (read_g2 arg2 harg2 x2) (read_acts c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu) (read_stats c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu 0) (read_stats c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu 1) _ le_rfl
  rw [codes2Buf]
  exact filled (s := S256x6912) (e := .bf16) _ _ hA (ix2 i ρ) hc

/-! ## The results -/

include hg hu in
theorem out_act (i : Fin 256) (l : Fin 6912) : out0_A_5 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 (ix2 i l) = acts c x0 x1 x3 fh0 fh1 i l := by
  refine filled (s := S256x6912) (e := .bf16) (fun y => acts c x0 x1 x3 fh0 fh1 (y 0) (y 1)) _ ?_ (ix2 i l) (cover0_A_5 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 _)
  rw [run_act]
  exact pieces2_out c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu

include hg hu in
theorem out_codes2 (i : Fin 256) (l : Fin 6912) :
    out0_A_8 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 (ix2 i l) = code n6912 (acts c x0 x1 x3 fh0 fh1 i) (gain2 x2) l := by
  refine filled (s := S256x6912) (e := .i8) (fun y => code n6912 (acts c x0 x1 x3 fh0 fh1 (y 0)) (gain2 x2) (y 1)) _ ?_ (ix2 i l) (cover0_A_8 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 _)
  rw [run_codes2]
  exact loop3_codes Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 _ _ _ _ _ (acts c x0 x1 x3 fh0 fh1) (gain2 x2)
      (read_g2 arg2 harg2 x2) (read_acts c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu) (read_stats c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu 0) (read_stats c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu 1) _ le_rfl

include hg hu in
theorem out_scales2 (h : Fin 2) (l : Fin 128) :
    out0_A_9 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 (ix2 h l) = scale n6912 (acts c x0 x1 x3 fh0 fh1 (row2 h l)) (gain2 x2) := by
  have hst := read_stats c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu 2
  refine filled (s := S2x128) (e := .f32) (fun y => scale n6912 (acts c x0 x1 x3 fh0 fh1 (row2 (y 0) (y 1))) (gain2 x2)) _ ?_ (ix2 h l)
    (cover0_A_9 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 _)
  rw [run_scales2]
  refine agree_append _ [_] [_] (agree_one _ _ _ (tile2 (e := .f32) (M := 2) (N := 128) (m := 1) (n := 128)
      (fun h l => scale n6912 (acts c x0 x1 x3 fh0 fh1 (row2 h l)) (gain2 x2)) _ inb_S2x128_S1x128_1_0 _ fun i l I J hI hJ => ?_))
    (agree_one _ _ _ (tile2 (e := .f32) (M := 2) (N := 128) (m := 1) (n := 128)
      (fun h l => scale n6912 (acts c x0 x1 x3 fh0 fh1 (row2 h l)) (gain2 x2)) _ inb_S2x128_S1x128_0_0 _ fun i l I J hI hJ => ?_))
  · obtain rfl : I = 1 := Fin.ext (by rw [hI]; have := i.isLt; show 1 + i.val = 1; omega)
    obtain rfl : J = l := Fin.ext (hJ.trans (Nat.zero_add _))
    obtain rfl : i = 0 := Subsingleton.elim _ _
    refine (pay1_apply _ _).trans (Eq.trans ?_ (hst (row2 1 J) J))
    exact congrArg (arg20.view.read (Elt Ideal) (statsBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1)) (place3 _ _ _ _ _ _ _ _ rfl rfl (Nat.zero_add _).symm)
  · obtain rfl : I = 0 := Fin.ext (by rw [hI]; have := i.isLt; show 0 + i.val = 0; omega)
    obtain rfl : J = l := Fin.ext (hJ.trans (Nat.zero_add _))
    obtain rfl : i = 0 := Subsingleton.elim _ _
    refine (pay772_apply _ _).trans (Eq.trans ?_ (hst (row2 0 J) J))
    exact congrArg (arg20.view.read (Elt Ideal) (statsBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1 x2 x3 fh0 fh1)) (place3 _ _ _ _ _ _ _ _ rfl rfl (Nat.zero_add _).symm)

include hg hu in
theorem out_y (hd : ∀ b l, Ternary (read2 (Memref.whole main_arg7) fh2 b l)) (i : Fin 256) (l : Fin 2560) :
    out0_A_4 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 (ix2 i l) = out (rowX x0 i l) (acts c x0 x1 x3 fh0 fh1 i) (gain2 x2)
      (fun b => read2 (Memref.whole main_arg7) fh2 b l) (x3 (ix1 2)) := by
  refine filled (s := S256x2560) (e := .bf16) (fun y => out (rowX x0 (y 0) (y 1)) (acts c x0 x1 x3 fh0 fh1 (y 0)) (gain2 x2)
      (fun b => read2 (Memref.whole main_arg7) fh2 b (y 1)) (x3 (ix1 2))) _ ?_ (ix2 i l) (cover0_A_4 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 _)
  rw [run_y, ← downScale_eq arg3 harg3 x3]
  exact loop4_out Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 _ _ _ _ _ _ _ (rowX x0) (acts c x0 x1 x3 fh0 fh1) (gain2 x2) _ (read_x arg0 harg0 x0)
    (read_down c arg15 fh2) hd (read_codes2 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu) (read_stats c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 hg hu 2) _ le_rfl
end

theorem out_codes (i : Fin 256) (l : Fin 2560) : out0_A_6 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 (ix2 i l) = code n2560 (rowX x0 i) (gain1 x1) l := by
  refine filled (s := S256x2560) (e := .i8) (fun y => code n2560 (rowX x0 (y 0)) (gain1 x1) (y 1)) _ ?_ (ix2 i l) (cover0_A_6 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 _)
  rw [run_codes]
  exact loop1_codes Variants.none c none arg0 harg0 arg1 harg1 arg2 harg2 arg3 harg3 (Memref.whole main_arg2) (Memref.isWhole_whole _)
        (Memref.whole main_arg4) (Memref.isWhole_whole _) (Memref.whole main_arg7) (Memref.isWhole_whole _) arg7
        harg7 arg8 harg8 arg9 harg9 arg10 harg10 arg11 harg11 arg12 harg12 arg13 harg13 arg14 harg14 arg15 harg15
        arg16 harg16 arg17 harg17 arg18 harg18 arg19 harg19 arg20 harg20 cc0_scratch8 _ _ (rowX x0) (gain1 x1) (read_x arg0 harg0 x0) (read_g1 arg1 harg1 x1) _ le_rfl

theorem out_scales (h : Fin 2) (l : Fin 128) :
    out0_A_7 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 (ix2 h l) = scale n2560 (rowX x0 (row2 h l)) (gain1 x1) := by
  have hst := read_scales c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1
  refine filled (s := S2x128) (e := .f32) (fun y => scale n2560 (rowX x0 (row2 (y 0) (y 1))) (gain1 x1)) _ ?_ (ix2 h l)
    (cover0_A_7 c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20
      x0 x1 x2 x3 fh0 fh1 fh2 _)
  rw [run_scales]
  refine agree_append _ [_] [_] (agree_one _ _ _ (tile2 (e := .f32) (M := 2) (N := 128) (m := 1) (n := 128)
      (fun h l => scale n2560 (rowX x0 (row2 h l)) (gain1 x1)) _ inb_S2x128_S1x128_1_0 _ fun i l I J hI hJ => ?_))
    (agree_one _ _ _ (tile2 (e := .f32) (M := 2) (N := 128) (m := 1) (n := 128)
      (fun h l => scale n2560 (rowX x0 (row2 h l)) (gain1 x1)) _ inb_S2x128_S1x128_0_0 _ fun i l I J hI hJ => ?_))
  · obtain rfl : I = 1 := Fin.ext (by rw [hI]; have := i.isLt; show 1 + i.val = 1; omega)
    obtain rfl : J = l := Fin.ext (hJ.trans (Nat.zero_add _))
    obtain rfl : i = 0 := Subsingleton.elim _ _
    refine (pay773_apply _ _).trans (Eq.trans ?_ (hst (row2 1 J) J))
    exact congrArg (arg19.view.read (Elt Ideal) (scalesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1)) (place2 _ _ _ _ _ _ rfl (Nat.zero_add _).symm)
  · obtain rfl : I = 0 := Fin.ext (by rw [hI]; have := i.isLt; show 0 + i.val = 0; omega)
    obtain rfl : J = l := Fin.ext (hJ.trans (Nat.zero_add _))
    obtain rfl : i = 0 := Subsingleton.elim _ _
    refine (pay771_apply _ _).trans (Eq.trans ?_ (hst (row2 0 J) J))
    exact congrArg (arg19.view.read (Elt Ideal) (scalesBuf c arg0 harg0 arg1 harg1 arg2 harg2 arg3 harg3 arg7 harg7 arg8 harg8 arg9 harg9 arg10 harg10 arg11 harg11 arg12
        harg12 arg13 harg13 arg14 harg14 arg15 harg15 arg16 harg16 arg17 harg17 arg18 harg18 arg19 harg19 arg20
        harg20 x0 x1)) (place2 _ _ _ _ _ _ (by show 128 * 0 + J.val = 0 + J.val; omega) (Nat.zero_add _).symm)

end Cert.KernelIdeal.Gen
-- ==== Proof.EvalRefDot.lean ====
/- The reference's products, read entry by entry. -/
module

public import proofs.«01_k».proof.Proof.Gen.ReferenceIdeal.Value
public import proofs.«01_k».proof.Proof.Math
public import Idealize.ShloMosaic.Lib.Pointwise
public import Idealize.ShloMosaic.Lib.Pointwise.IndexBridge

@[expose] public section

set_option maxRecDepth 16384

noncomputable section

namespace Cert.ReferenceIdeal.Gen

open Idealize.ShloMosaic Idealize.ShloMosaic.TcCoe Ffn

/-- The weight in field `k` of a byte, as the program reads it. -/
theorem field (b : BitVec 8) : ∀ k : Fin 4, FloatOps.sitofp (F := Ideal) .bf16 (IntOp.subi (IntOp.andi
    (IntOp.shrsi .vector (BitVec.setWidth 32 b) (BitVec.ofNat 32 (2 * k.val))) 3#32) 1#32) = weight b k.val
  | 0 => rfl
  | 1 => rfl
  | 2 => rfl
  | 3 => rfl

/-- An entry of four to a byte is an entry of the row. -/
theorem four_lt {n : ℕ} (b : Fin n) (k : Fin 4) : 4 * b.val + k.val < 4 * n := by omega

section
variable (i : Fin 256) (c : Fin 6912) (v : FVec Ideal S256x640x4 .bf16) (w : Vec Ideal S640x6912 .i8)
  (q : Fin 2560 → BitVec 8) (W : Fin 640 → BitVec 8)
  (hq : ∀ b k, v (ix3 i b k) = real (q ⟨4 * b.val + k.val, four_lt b k⟩)) (hw : ∀ b, w (ix2 b c) = W b)

include hq hw in
theorem pay7_apply : k0_pay7 v w (k0_pay6 w) 3#32 (ix2 i c) = dot (n := 2560) rfl q W := by
  rw [← dot_fields]
  pointwise [k0_pay7, k0_pay6]
  refine congrArg₂ (· + ·) (congrArg₂ (· + ·) (congrArg₂ (· + ·) ?_ ?_) ?_) ?_ <;>
    refine Finset.sum_congr rfl fun x _ => ?_ <;> rw [hq, hw]
  · exact congrArg _ (field (W x) 0)
  · exact congrArg _ (field (W x) 1)
  · exact congrArg _ (field (W x) 2)
  · exact congrArg _ (field (W x) 3)

include hq hw in
/-- The activation, from the gate projection and the first three fields of the up projection. -/
theorem pay13_apply (v26 : FVec Ideal S256 .f32) (v92 : FVec Ideal S256x6912 .f32) (s : Vec Ideal S1x1 .f32) :
    k0_pay13 v26 v v92 (k0_pay10 v w) (k0_pay11 w) k0_pay12 s (ix2 i c)
      = max (v92 (ix2 i c)) 0 * max (v92 (ix2 i c)) 0 * (dot (n := 2560) rfl q W * v26 (ix1 i) * s (ix2 0 0)) := by
  rw [← dot_fields]
  pointwise [k0_pay13, k0_pay10, k0_pay11, k0_pay12]
  refine congrArg (_ * ·) (congrArg (· * _) (congrArg (· * _) ?_))
  refine congrArg₂ (· + ·) (congrArg₂ (· + ·) (congrArg₂ (· + ·) ?_ ?_) ?_) ?_ <;>
    refine Finset.sum_congr rfl fun x _ => ?_ <;> rw [hq, hw]
  · exact congrArg _ (field (W x) 0)
  · exact congrArg _ (field (W x) 1)
  · exact congrArg _ (field (W x) 2)
  · exact congrArg _ (field (W x) 3)

end

/-- The gate projection's entries. -/
theorem pay9_apply (i : Fin 256) (c : Fin 6912) (v85 : FVec Ideal S256x6912 .f32) (v26 : FVec Ideal S256 .f32) (s : Vec Ideal S1x1 .f32) :
    k0_pay9 v85 (k0_pay8 v26) s (ix2 i c) = v85 (ix2 i c) * v26 (ix1 i) * s (ix2 0 0) := by
  pointwise [k0_pay9, k0_pay8]

theorem pay21_apply (v167 : FVec Ideal S256x6912 .f32) (v171 : IVec S256 1) (v173 v174 : FVec Ideal S256 .f32)
    (i : Fin 256) (b : Fin 1728) (k : Fin 4) :
    k0_pay21 v167 v171 v173 v174 (ix3 i b k) = real (k0_pay20 v167 v171 v173 v174 (ix2 i ⟨4 * b.val + k.val, by omega⟩)) := by
  pointwise [k0_pay21]
  show real _ = real _
  congr 3
  exact Fin.ext (by simp only []; omega)

/-- The result's entries. -/
theorem pay25_apply (i : Fin 256) (c : Fin 2560) (x : Vec Ideal S256x2560 .bf16) (v175 : FVec Ideal S256 .f32)
    (v167 : FVec Ideal S256x6912 .f32) (v171 : IVec S256 1) (v173 v174 : FVec Ideal S256 .f32) (w : Vec Ideal S1728x2560 .i8)
    (s : Vec Ideal S1x1 .f32) (q : Fin 6912 → BitVec 8) (W : Fin 1728 → BitVec 8)
    (hq : ∀ c, k0_pay20 v167 v171 v173 v174 (ix2 i c) = q c) (hw : ∀ b, w (ix2 b c) = W b) :
    k0_pay25 (k0_pay1 x) v175 (k0_pay21 v167 v171 v173 v174) w (k0_pay22 v167 v171 v173 v174 w) (k0_pay23 w)
        (k0_pay24 v167 v171 v173 v174) s (ix2 i c)
      = x (ix2 i c) + dot (n := 6912) rfl q W * v175 (ix1 i) * s (ix2 0 0) := by
  have s0 : ∀ b : Fin 1728, k0_pay21 v167 v171 v173 v174 (ix3 i b 0) * FloatOps.sitofp (F := Ideal) .bf16 (IntOp.subi (IntOp.andi
      (IntOp.shrsi .vector (BitVec.setWidth 32 (w (ix2 b c))) 0#32) 3#32) 1#32) = real (q ⟨4 * b.val + 0, by omega⟩) * weight (W b) 0 :=
    fun b => by rw [pay21_apply, hq, hw]; exact congrArg _ (field (W b) 0)
  have s1 : ∀ b : Fin 1728, k0_pay21 v167 v171 v173 v174 (ix3 i b 1) * FloatOps.sitofp (F := Ideal) .bf16 (IntOp.subi (IntOp.andi
      (IntOp.shrsi .vector (BitVec.setWidth 32 (w (ix2 b c))) 2#32) 3#32) 1#32) = real (q ⟨4 * b.val + 1, by omega⟩) * weight (W b) 1 :=
    fun b => by rw [pay21_apply, hq, hw]; exact congrArg _ (field (W b) 1)
  have s2 : ∀ b : Fin 1728, k0_pay21 v167 v171 v173 v174 (ix3 i b 2) * FloatOps.sitofp (F := Ideal) .bf16 (IntOp.subi (IntOp.andi
      (IntOp.shrsi .vector (BitVec.setWidth 32 (w (ix2 b c))) 4#32) 3#32) 1#32) = real (q ⟨4 * b.val + 2, by omega⟩) * weight (W b) 2 :=
    fun b => by rw [pay21_apply, hq, hw]; exact congrArg _ (field (W b) 2)
  have s3 : ∀ b : Fin 1728, k0_pay21 v167 v171 v173 v174 (ix3 i b 3) * FloatOps.sitofp (F := Ideal) .bf16 (IntOp.subi (IntOp.andi
      (IntOp.shrsi .vector (BitVec.setWidth 32 (w (ix2 b c))) 6#32) 3#32) 1#32) = real (q ⟨4 * b.val + 3, by omega⟩) * weight (W b) 3 :=
    fun b => by rw [pay21_apply, hq, hw]; exact congrArg _ (field (W b) 3)
  rw [← dot_fields]
  pointwise [k0_pay25, k0_pay22, k0_pay23, k0_pay24, k0_pay1]
  simp only [s0, s1, s2, s3, Nat.add_zero]

theorem pay26_apply (v : FVec Ideal S256x6912 .f32) (i : Fin 256) (c : Fin 6912) : k0_pay26 v (ix2 i c) = v (ix2 i c) := by
  pointwise [k0_pay26]

theorem pay27_apply (v : FVec Ideal S256 .f32) (h : Fin 2) (l : Fin 128) :
    k0_pay27 v (ix2 h l) = v (ix1 ⟨128 * h.val + l.val, by omega⟩) := by
  pointwise [k0_pay27]
  refine congrArg v (congrArg ix1 (Fin.ext ?_))
  show h.val * 128 + l.val = 128 * h.val + l.val
  omega

theorem pay28_apply (v : FVec Ideal S256 .f32) (h : Fin 2) (l : Fin 128) :
    k0_pay28 v (ix2 h l) = v (ix1 ⟨128 * h.val + l.val, by omega⟩) := by
  pointwise [k0_pay28]
  refine congrArg v (congrArg ix1 (Fin.ext ?_))
  show h.val * 128 + l.val = 128 * h.val + l.val
  omega

end Cert.ReferenceIdeal.Gen
-- ==== Proof.Layer.lean ====
/- The whole layer: each result's entries as functions of the arguments' entries, free of any program. -/
module

public import proofs.«01_k».proof.Proof.Math
public import Idealize.ShloMosaic.Lib.Pointwise
public import Idealize.ShloMosaic.Lib.Pointwise.IndexBridge

@[expose] public section

noncomputable section

namespace Ffn

open Idealize.ShloMosaic

/-- The arguments of the layer, entry by entry: the rows of `x`, the two gains, the packed weights of the gate, up and down
    projections and their scales. -/
structure Args where
  x : Fin 256 → Fin 2560 → EReal
  gain1 : Fin 2560 → EReal
  gain2 : Fin 6912 → EReal
  gate : Fin 640 → Fin 6912 → BitVec 8
  up : Fin 640 → Fin 6912 → BitVec 8
  down : Fin 1728 → Fin 2560 → BitVec 8
  sgate : EReal
  sup : EReal
  sdown : EReal

namespace Args

/-- The entries of the argument arrays. -/
def ofArrays (a0 : Vec Ideal ⟨3, ![2, 128, 2560]⟩ .bf16) (a1 : Vec Ideal ⟨1, ![2560]⟩ .f32) (a2 : Vec Ideal ⟨2, ![640, 6912]⟩ .i8)
    (a3 : Vec Ideal ⟨0, ![]⟩ .f32) (a4 : Vec Ideal ⟨2, ![640, 6912]⟩ .i8) (a5 : Vec Ideal ⟨0, ![]⟩ .f32) (a6 : Vec Ideal ⟨1, ![6912]⟩ .f32)
    (a7 : Vec Ideal ⟨2, ![1728, 2560]⟩ .i8) (a8 : Vec Ideal ⟨0, ![]⟩ .f32) : Args where
  x i l := a0 (ix3 ⟨i.val / 128, Nat.div_lt_of_lt_mul i.isLt⟩ ⟨i.val % 128, Nat.mod_lt _ (by decide)⟩ l)
  gain1 l := a1 (ix1 l)
  gain2 l := a6 (ix1 l)
  gate b l := a2 (ix2 b l)
  up b l := a4 (ix2 b l)
  down b l := a7 (ix2 b l)
  sgate := a3 ix0
  sup := a5 ix0
  sdown := a8 ix0

variable (a : Args)

/-- No field of a packed weight is 3. -/
def AllTernary : Prop := (∀ b l, Ternary (a.gate b l)) ∧ (∀ b l, Ternary (a.up b l)) ∧ ∀ b l, Ternary (a.down b l)

/-- The activation. -/
def acts (i : Fin 256) (l : Fin 6912) : EReal := act (a.x i) a.gain1 a.gate a.up a.sgate a.sup l

/-- The result of the layer. -/
def y (i : Fin 256) (l : Fin 2560) : EReal := out (a.x i l) (a.acts i) a.gain2 (fun b => a.down b l) a.sdown

/-- The codes of the normalised `x`. -/
def codes (i : Fin 256) (l : Fin 2560) : BitVec 8 := code n2560 (a.x i) a.gain1 l

/-- The scales of the normalised `x`, 128 to a row. -/
def scales (h : Fin 2) (l : Fin 128) : EReal := scale n2560 (a.x ⟨128 * h.val + l.val, by omega⟩) a.gain1

/-- The codes of the normalised activation. -/
def codes2 (i : Fin 256) (l : Fin 6912) : BitVec 8 := code n6912 (a.acts i) a.gain2 l

/-- The scales of the normalised activation, 128 to a row. -/
def scales2 (h : Fin 2) (l : Fin 128) : EReal := scale n6912 (a.acts ⟨128 * h.val + l.val, by omega⟩) a.gain2

end Args

end Ffn
-- ==== Proof.ArraysI.lean ====
/- The kernel's result arrays after its run, as functions of the argument arrays. -/
module

public import proofs.«01_k».proof.Proof.ValueI
public import proofs.«01_k».proof.Proof.Results
public import proofs.«01_k».proof.Proof.Layer
public import Idealize.ShloMosaic.Lib.Pipeline.ValueKit
public import Idealize.ShloMosaic.Lib.Claim

@[expose] public section

set_option maxRecDepth 100000

noncomputable section

namespace Cert.KernelIdeal.Gen

open Idealize.ShloMosaic Idealize.ShloMosaic.TcCoe Idealize.ShloMosaic.Tactic Idealize.SL.Sem Ffn

/-! ## Each window's block is its whole array -/

theorem emb0 (t : Fin cfg0.N) (j : S256x2560.Idx) : ((cfg0.win 0).blk t).view.emb j = j := by
  funext a; apply Fin.ext
  match a with
  | ⟨0, _⟩ => show 0 * 256 + 1 * (j 0).val = (j 0).val; omega
  | ⟨1, _⟩ => show 0 * 2560 + 1 * (j 1).val = (j 1).val; omega

theorem emb1 (t : Fin cfg0.N) (j : S1x2560.Idx) : ((cfg0.win 1).blk t).view.emb j = j := by
  funext a; apply Fin.ext
  match a with
  | ⟨0, _⟩ => show 0 * 1 + 1 * (j 0).val = (j 0).val; omega
  | ⟨1, _⟩ => show 0 * 2560 + 1 * (j 1).val = (j 1).val; omega

theorem emb2 (t : Fin cfg0.N) (j : S1x6912.Idx) : ((cfg0.win 2).blk t).view.emb j = j := by
  funext a; apply Fin.ext
  match a with
  | ⟨0, _⟩ => show 0 * 1 + 1 * (j 0).val = (j 0).val; omega
  | ⟨1, _⟩ => show 0 * 6912 + 1 * (j 1).val = (j 1).val; omega

theorem emb3 (t : Fin cfg0.N) (j : S3.Idx) : ((cfg0.win 3).blk t).view.emb j = j := by
  funext a; apply Fin.ext
  match a with
  | ⟨0, _⟩ => show 0 * 3 + 1 * (j 0).val = (j 0).val; omega

theorem emb4 (t : Fin cfg0.N) (j : S256x2560.Idx) : ((cfg0.win 4).blk t).view.emb j = j := by
  funext a; apply Fin.ext
  match a with
  | ⟨0, _⟩ => show 0 * 256 + 1 * (j 0).val = (j 0).val; omega
  | ⟨1, _⟩ => show 0 * 2560 + 1 * (j 1).val = (j 1).val; omega

theorem emb5 (t : Fin cfg0.N) (j : S256x6912.Idx) : ((cfg0.win 5).blk t).view.emb j = j := by
  funext a; apply Fin.ext
  match a with
  | ⟨0, _⟩ => show 0 * 256 + 1 * (j 0).val = (j 0).val; omega
  | ⟨1, _⟩ => show 0 * 6912 + 1 * (j 1).val = (j 1).val; omega

theorem emb6 (t : Fin cfg0.N) (j : S256x2560.Idx) : ((cfg0.win 6).blk t).view.emb j = j := by
  funext a; apply Fin.ext
  match a with
  | ⟨0, _⟩ => show 0 * 256 + 1 * (j 0).val = (j 0).val; omega
  | ⟨1, _⟩ => show 0 * 2560 + 1 * (j 1).val = (j 1).val; omega

theorem emb7 (t : Fin cfg0.N) (j : S2x128.Idx) : ((cfg0.win 7).blk t).view.emb j = j := by
  funext a; apply Fin.ext
  match a with
  | ⟨0, _⟩ => show 0 * 2 + 1 * (j 0).val = (j 0).val; omega
  | ⟨1, _⟩ => show 0 * 128 + 1 * (j 1).val = (j 1).val; omega

theorem emb8 (t : Fin cfg0.N) (j : S256x6912.Idx) : ((cfg0.win 8).blk t).view.emb j = j := by
  funext a; apply Fin.ext
  match a with
  | ⟨0, _⟩ => show 0 * 256 + 1 * (j 0).val = (j 0).val; omega
  | ⟨1, _⟩ => show 0 * 6912 + 1 * (j 1).val = (j 1).val; omega

theorem emb9 (t : Fin cfg0.N) (j : S2x128.Idx) : ((cfg0.win 9).blk t).view.emb j = j := by
  funext a; apply Fin.ext
  match a with
  | ⟨0, _⟩ => show 0 * 2 + 1 * (j 0).val = (j 0).val; omega
  | ⟨1, _⟩ => show 0 * 128 + 1 * (j 1).val = (j 1).val; omega

variable (m : (ℓ : Loc nD τ sig) → Buf (Elt Ideal) ℓ) (c : Dev nD)

/-- The arguments as launched. -/
def argsOf : Args := Args.ofArrays (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8))

/-! ## What the blocks read -/

theorem iblk0_eq (t : Fin cfg0.N) : iblk m c 0 t = V m c main_v4 := by
  funext j; show V m c main_v4 (((cfg0.win 0).blk t).view.emb j) = V m c main_v4 j; rw [emb0]

theorem iblk1_eq (t : Fin cfg0.N) : iblk m c 1 t = V m c main_v5 := by
  funext j; show V m c main_v5 (((cfg0.win 1).blk t).view.emb j) = V m c main_v5 j; rw [emb1]

theorem iblk2_eq (t : Fin cfg0.N) : iblk m c 2 t = V m c main_v6 := by
  funext j; show V m c main_v6 (((cfg0.win 2).blk t).view.emb j) = V m c main_v6 j; rw [emb2]

theorem iblk3_eq (t : Fin cfg0.N) : iblk m c 3 t = V m c main_v3 := by
  funext j; show V m c main_v3 (((cfg0.win 3).blk t).view.emb j) = V m c main_v3 j; rw [emb3]

theorem entry_x (i : Fin 256) (l : Fin 2560) : V m c main_v4 (ix2 i l) = (argsOf m c).x i l := by
  entry_read
  show _ = m ((c : Thread nD τ).loc main_arg0) (ix3 ⟨i.val / 128, _⟩ ⟨i.val % 128, _⟩ l)
  pointwise

theorem entry_gain1 (l : Fin 2560) : V m c main_v5 (ix2 0 l) = (argsOf m c).gain1 l := by
  entry_read
  show _ = m ((c : Thread nD τ).loc main_arg1) (ix1 l)
  pointwise

theorem entry_gain2 (l : Fin 6912) : V m c main_v6 (ix2 0 l) = (argsOf m c).gain2 l := by
  entry_read
  show _ = m ((c : Thread nD τ).loc main_arg6) (ix1 l)
  pointwise

/-- The three scales, side by side. -/
theorem entry_scales : V m c main_v3 = concatenate S3 0
    [⟨S1, broadcastInDim S1 ![] bcast_S_S1 (m ((c : Thread nD τ).loc main_arg3) : Vec Ideal S_ .f32)⟩,
     ⟨S1, broadcastInDim S1 ![] bcast_S_S1 (m ((c : Thread nD τ).loc main_arg5) : Vec Ideal S_ .f32)⟩,
     ⟨S1, broadcastInDim S1 ![] bcast_S_S1 (m ((c : Thread nD τ).loc main_arg8) : Vec Ideal S_ .f32)⟩]
    concatenates_S1_S1_S1_S3_d0 := by
  simp only [V, hostOps0, StableHlo.after_cons, StableHlo.after_nil]
  after_results_simp
  rfl

theorem entry_sgate : V m c main_v3 (ix1 0) = (argsOf m c).sgate := by
  rw [entry_scales]
  show _ = (m ((c : Thread nD τ).loc main_arg3) : Vec Ideal S_ .f32) ix0
  pointwise

theorem entry_sup : V m c main_v3 (ix1 1) = (argsOf m c).sup := by
  rw [entry_scales]
  show _ = (m ((c : Thread nD τ).loc main_arg5) : Vec Ideal S_ .f32) ix0
  pointwise

theorem entry_sdown : V m c main_v3 (ix1 2) = (argsOf m c).sdown := by
  rw [entry_scales]
  show _ = (m ((c : Thread nD τ).loc main_arg8) : Vec Ideal S_ .f32) ix0
  pointwise

section
variable (t : Fin cfg0.N)

theorem rowX_eq (i : Fin 256) : rowX (iblk m c 0 t) i = (argsOf m c).x i := by
  rw [iblk0_eq]; exact funext (entry_x m c i)

theorem gain1_eq : gain1 (iblk m c 1 t) = (argsOf m c).gain1 := by
  rw [iblk1_eq]; exact funext (entry_gain1 m c)

theorem gain2_eq : gain2 (iblk m c 2 t) = (argsOf m c).gain2 := by
  rw [iblk2_eq]; exact funext (entry_gain2 m c)

theorem gate_eq : read2 (Memref.whole main_arg2) (V m c main_arg2) = (argsOf m c).gate := by
  rw [V_main_arg2]; rfl

theorem up_eq : read2 (Memref.whole main_arg4) (V m c main_arg4) = (argsOf m c).up := by
  rw [V_main_arg4]; rfl

theorem down_eq : read2 (Memref.whole main_arg7) (V m c main_arg7) = (argsOf m c).down := by
  rw [V_main_arg7]; rfl

theorem sgate_eq : iblk m c 3 t (ix1 0) = (argsOf m c).sgate := by
  rw [iblk3_eq]; exact entry_sgate m c

theorem sup_eq : iblk m c 3 t (ix1 1) = (argsOf m c).sup := by
  rw [iblk3_eq]; exact entry_sup m c

theorem sdown_eq : iblk m c 3 t (ix1 2) = (argsOf m c).sdown := by
  rw [iblk3_eq]; exact entry_sdown m c

/-- The activation of the blocks. -/
theorem acts_eq (i : Fin 256) :
    acts c (iblk m c 0 t) (iblk m c 1 t) (iblk m c 3 t) (V m c main_arg2) (V m c main_arg4) i = (argsOf m c).acts i := by
  funext l
  unfold acts Args.acts
  rw [rowX_eq, gain1_eq, gate_eq, up_eq, sgate_eq, sup_eq]

end

/-! ## The result arrays -/

section
variable (hT : (argsOf m c).AllTernary)
include hT

theorem hgate (b : Fin 640) (l : Fin 6912) : Ternary (read2 (Memref.whole main_arg2) (V m c main_arg2) b l) := by
  rw [gate_eq]; exact hT.1 b l

theorem hup (b : Fin 640) (l : Fin 6912) : Ternary (read2 (Memref.whole main_arg4) (V m c main_arg4) b l) := by
  rw [up_eq]; exact hT.2.1 b l

theorem hdown (b : Fin 1728) (l : Fin 2560) : Ternary (read2 (Memref.whole main_arg7) (V m c main_arg7) b l) := by
  rw [down_eq]; exact hT.2.2 b l

end

theorem cut4_eq (t : Fin cfg0.N) (X : Vec Ideal S256x2560 .bf16) :
    (cfg0.win 4).cut (grid0.coords t) X = ((cfg0.win 4).blk t).view.read (Elt Ideal) X := by
  funext j
  show X j = X (((cfg0.win 4).blk t).view.emb j)
  rw [emb4]

theorem entry4_eq (hT : (argsOf m c).AllTernary) (t : Fin cfg0.N) (i : Fin 256) (l : Fin 2560) : out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
      (ix2 i l) = (argsOf m c).y i l := by
  refine (out_y c _ _ _ _ _ _ _ _ _ _ _ _ _ _ _ _ _ _ _ _ _ _ _ _ _ _ _ _ _ _ _ _ _ _ _ _ _ _ _ _ _ _ _ (hgate m c hT) (hup m c hT) (hdown m c hT) i l).trans ?_
  unfold Args.y; rw [rowX_eq, acts_eq, gain2_eq, sdown_eq, down_eq]

theorem block4_eq (hT : (argsOf m c).AllTernary) (t : Fin cfg0.N) : out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
    = fun y => (argsOf m c).y (y 0) (y 1) := funext fun y => by
  conv_lhs => rw [eq_ix2 y]
  exact entry4_eq m c hT t (y 0) (y 1)

theorem final4 (hT : (argsOf m c).AllTernary) : (dats m 0 c).arrAt 4 cfg0.N = fun y : S256x2560.Idx => (argsOf m c).y (y 0) (y 1) :=
  (dats m 0 c).arrAt_eq_of_cover 4 (fun y : S256x2560.Idx => (argsOf m c).y (y 0) (y 1))
    (fun t _ => by rw [Value.flushed4_A, block4_eq m c hT t]; exact cut4_eq t _)
    fun i => ⟨(⟨0, by decide⟩ : Fin cfg0.N), flush0_4 _, by
      have h := ((cfg0.win 4).blk (⟨0, by decide⟩ : Fin cfg0.N)).view.emb_mem_set i; rwa [emb4] at h⟩

theorem cut5_eq (t : Fin cfg0.N) (X : Vec Ideal S256x6912 .bf16) :
    (cfg0.win 5).cut (grid0.coords t) X = ((cfg0.win 5).blk t).view.read (Elt Ideal) X := by
  funext j
  show X j = X (((cfg0.win 5).blk t).view.emb j)
  rw [emb5]

theorem entry5_eq (hT : (argsOf m c).AllTernary) (t : Fin cfg0.N) (i : Fin 256) (l : Fin 6912) : out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
      (ix2 i l) = (argsOf m c).acts i l := by
  refine (out_act c _ _ _ _ _ _ _ _ _ _ _ _ _ _ _ _ _ _ _ _ _ _ _ _ _ _ _ _ _ _ _ _ _ _ _ _ _ _ _ _ _ _ _ (hgate m c hT) (hup m c hT) i l).trans ?_
  rw [acts_eq]

theorem block5_eq (hT : (argsOf m c).AllTernary) (t : Fin cfg0.N) : out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
    = fun y => (argsOf m c).acts (y 0) (y 1) := funext fun y => by
  conv_lhs => rw [eq_ix2 y]
  exact entry5_eq m c hT t (y 0) (y 1)

theorem final5 (hT : (argsOf m c).AllTernary) : (dats m 0 c).arrAt 5 cfg0.N = fun y : S256x6912.Idx => (argsOf m c).acts (y 0) (y 1) :=
  (dats m 0 c).arrAt_eq_of_cover 5 (fun y : S256x6912.Idx => (argsOf m c).acts (y 0) (y 1))
    (fun t _ => by rw [Value.flushed5_A, block5_eq m c hT t]; exact cut5_eq t _)
    fun i => ⟨(⟨0, by decide⟩ : Fin cfg0.N), flush0_5 _, by
      have h := ((cfg0.win 5).blk (⟨0, by decide⟩ : Fin cfg0.N)).view.emb_mem_set i; rwa [emb5] at h⟩

theorem cut6_eq (t : Fin cfg0.N) (X : Vec Ideal S256x2560 .i8) :
    (cfg0.win 6).cut (grid0.coords t) X = ((cfg0.win 6).blk t).view.read (Elt Ideal) X := by
  funext j
  show X j = X (((cfg0.win 6).blk t).view.emb j)
  rw [emb6]

theorem entry6_eq (t : Fin cfg0.N) (i : Fin 256) (l : Fin 2560) : out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
      (ix2 i l) = (argsOf m c).codes i l := by
  refine (out_codes c _ _ _ _ _ _ _ _ _ _ _ _ _ _ _ _ _ _ _ _ _ _ _ _ _ _ _ _ _ _ _ _ _ _ _ _ _ _ _ _ _ _ _ i l).trans ?_
  unfold Args.codes; rw [rowX_eq, gain1_eq]

theorem block6_eq (t : Fin cfg0.N) : out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
    = fun y => (argsOf m c).codes (y 0) (y 1) := funext fun y => by
  conv_lhs => rw [eq_ix2 y]
  exact entry6_eq m c t (y 0) (y 1)

theorem final6 : (dats m 0 c).arrAt 6 cfg0.N = fun y : S256x2560.Idx => (argsOf m c).codes (y 0) (y 1) :=
  (dats m 0 c).arrAt_eq_of_cover 6 (fun y : S256x2560.Idx => (argsOf m c).codes (y 0) (y 1))
    (fun t _ => by rw [Value.flushed6_A, block6_eq m c t]; exact cut6_eq t _)
    fun i => ⟨(⟨0, by decide⟩ : Fin cfg0.N), flush0_6 _, by
      have h := ((cfg0.win 6).blk (⟨0, by decide⟩ : Fin cfg0.N)).view.emb_mem_set i; rwa [emb6] at h⟩

theorem cut7_eq (t : Fin cfg0.N) (X : Vec Ideal S2x128 .f32) :
    (cfg0.win 7).cut (grid0.coords t) X = ((cfg0.win 7).blk t).view.read (Elt Ideal) X := by
  funext j
  show X j = X (((cfg0.win 7).blk t).view.emb j)
  rw [emb7]

theorem entry7_eq (t : Fin cfg0.N) (i : Fin 2) (l : Fin 128) : out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
      (ix2 i l) = (argsOf m c).scales i l := by
  refine (out_scales c _ _ _ _ _ _ _ _ _ _ _ _ _ _ _ _ _ _ _ _ _ _ _ _ _ _ _ _ _ _ _ _ _ _ _ _ _ _ _ _ _ _ _ i l).trans ?_
  unfold Args.scales; rw [rowX_eq, gain1_eq]; rfl

theorem block7_eq (t : Fin cfg0.N) : out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
    = fun y => (argsOf m c).scales (y 0) (y 1) := funext fun y => by
  conv_lhs => rw [eq_ix2 y]
  exact entry7_eq m c t (y 0) (y 1)

theorem final7 : (dats m 0 c).arrAt 7 cfg0.N = fun y : S2x128.Idx => (argsOf m c).scales (y 0) (y 1) :=
  (dats m 0 c).arrAt_eq_of_cover 7 (fun y : S2x128.Idx => (argsOf m c).scales (y 0) (y 1))
    (fun t _ => by rw [Value.flushed7_A, block7_eq m c t]; exact cut7_eq t _)
    fun i => ⟨(⟨0, by decide⟩ : Fin cfg0.N), flush0_7 _, by
      have h := ((cfg0.win 7).blk (⟨0, by decide⟩ : Fin cfg0.N)).view.emb_mem_set i; rwa [emb7] at h⟩

theorem cut8_eq (t : Fin cfg0.N) (X : Vec Ideal S256x6912 .i8) :
    (cfg0.win 8).cut (grid0.coords t) X = ((cfg0.win 8).blk t).view.read (Elt Ideal) X := by
  funext j
  show X j = X (((cfg0.win 8).blk t).view.emb j)
  rw [emb8]

theorem entry8_eq (hT : (argsOf m c).AllTernary) (t : Fin cfg0.N) (i : Fin 256) (l : Fin 6912) : out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
      (ix2 i l) = (argsOf m c).codes2 i l := by
  refine (out_codes2 c _ _ _ _ _ _ _ _ _ _ _ _ _ _ _ _ _ _ _ _ _ _ _ _ _ _ _ _ _ _ _ _ _ _ _ _ _ _ _ _ _ _ _ (hgate m c hT) (hup m c hT) i l).trans ?_
  unfold Args.codes2; rw [acts_eq, gain2_eq]

theorem block8_eq (hT : (argsOf m c).AllTernary) (t : Fin cfg0.N) : out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
    = fun y => (argsOf m c).codes2 (y 0) (y 1) := funext fun y => by
  conv_lhs => rw [eq_ix2 y]
  exact entry8_eq m c hT t (y 0) (y 1)

theorem final8 (hT : (argsOf m c).AllTernary) : (dats m 0 c).arrAt 8 cfg0.N = fun y : S256x6912.Idx => (argsOf m c).codes2 (y 0) (y 1) :=
  (dats m 0 c).arrAt_eq_of_cover 8 (fun y : S256x6912.Idx => (argsOf m c).codes2 (y 0) (y 1))
    (fun t _ => by rw [Value.flushed8_A, block8_eq m c hT t]; exact cut8_eq t _)
    fun i => ⟨(⟨0, by decide⟩ : Fin cfg0.N), flush0_8 _, by
      have h := ((cfg0.win 8).blk (⟨0, by decide⟩ : Fin cfg0.N)).view.emb_mem_set i; rwa [emb8] at h⟩

theorem cut9_eq (t : Fin cfg0.N) (X : Vec Ideal S2x128 .f32) :
    (cfg0.win 9).cut (grid0.coords t) X = ((cfg0.win 9).blk t).view.read (Elt Ideal) X := by
  funext j
  show X j = X (((cfg0.win 9).blk t).view.emb j)
  rw [emb9]

theorem entry9_eq (hT : (argsOf m c).AllTernary) (t : Fin cfg0.N) (i : Fin 2) (l : Fin 128) : out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
      (ix2 i l) = (argsOf m c).scales2 i l := by
  refine (out_scales2 c _ _ _ _ _ _ _ _ _ _ _ _ _ _ _ _ _ _ _ _ _ _ _ _ _ _ _ _ _ _ _ _ _ _ _ _ _ _ _ _ _ _ _ (hgate m c hT) (hup m c hT) i l).trans ?_
  unfold Args.scales2; rw [acts_eq, gain2_eq]; rfl

theorem block9_eq (hT : (argsOf m c).AllTernary) (t : Fin cfg0.N) : out0_A_9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (V m c main_arg2) (V m c main_arg4) (V m c main_arg7)
    = fun y => (argsOf m c).scales2 (y 0) (y 1) := funext fun y => by
  conv_lhs => rw [eq_ix2 y]
  exact entry9_eq m c hT t (y 0) (y 1)

theorem final9 (hT : (argsOf m c).AllTernary) : (dats m 0 c).arrAt 9 cfg0.N = fun y : S2x128.Idx => (argsOf m c).scales2 (y 0) (y 1) :=
  (dats m 0 c).arrAt_eq_of_cover 9 (fun y : S2x128.Idx => (argsOf m c).scales2 (y 0) (y 1))
    (fun t _ => by rw [Value.flushed9_A, block9_eq m c hT t]; exact cut9_eq t _)
    fun i => ⟨(⟨0, by decide⟩ : Fin cfg0.N), flush0_9 _, by
      have h := ((cfg0.win 9).blk (⟨0, by decide⟩ : Fin cfg0.N)).view.emb_mem_set i; rwa [emb9] at h⟩

end Cert.KernelIdeal.Gen
-- ==== Proof.EvalRef.lean ====
/- The reference's normalisation and quantiser, read entry by entry. -/
module

public import proofs.«01_k».proof.Proof.Gen.ReferenceIdeal.Value
public import proofs.«01_k».proof.Proof.Math
public import Idealize.ShloMosaic.Lib.Pointwise
public import Idealize.ShloMosaic.Lib.Pointwise.IndexBridge

@[expose] public section

set_option maxRecDepth 16384

noncomputable section

namespace Cert.ReferenceIdeal.Gen

open Idealize.ShloMosaic Idealize.ShloMosaic.TcCoe Ffn

section
variable (x : Vec Ideal S256x2560 .bf16) (g : Vec Ideal S1x2560 .f32) (X : Fin 256 → Fin 2560 → EReal) (G : Fin 2560 → EReal)
  (hx : ∀ i c, x (ix2 i c) = X i c) (hg : ∀ c, g (ix2 0 c) = G c)

include hx hg in
theorem pay2_apply (i : Fin 256) (c : Fin 2560) : k0_pay2 x g (ix2 i c) = normed n2560 (X i) G c := by
  pointwise [k0_pay2, k0_pay1]
  simp only [hx, hg, bits_one]
  rfl

include hx hg in
theorem pay3_apply (i : Fin 256) : k0_pay3 x g (ix1 i) = scale n2560 (X i) G := by
  pointwise [k0_pay3]
  simp only [pay2_apply x g X G hx hg, bits_127, bits_bot, Ideal.absf_def]
  rw [fold_bot_eq_largest (by decide)]
  rfl

include hx hg in
theorem pay4_apply (i : Fin 256) (c : Fin 2560) : k0_pay4 x g (ix2 i c) = code n2560 (X i) G c := by
  pointwise [k0_pay4]
  rw [pay2_apply x g X G hx hg, pay3_apply x g X G hx hg, bits_127, bits_neg127]
  rfl

include hx hg in
theorem pay5_apply (i : Fin 256) (b : Fin 640) (k : Fin 4) :
    k0_pay5 x g (ix3 i b k) = real (code n2560 (X i) G ⟨4 * b.val + k.val, by omega⟩) := by
  rw [← pay4_apply x g X G hx hg]
  pointwise [k0_pay5]
  show real _ = real _
  congr 3
  exact Fin.ext (by simp only []; omega)

end

section
variable (v26 : FVec Ideal S256 .f32) (v37 : FVec Ideal S256x640x4 .bf16) (v92 v128 : FVec Ideal S256x6912 .f32)
  (v129 v130 : IVec S640x6912 32) (v144 : Vec Ideal S1x1 .f32) (g : Vec Ideal S1x6912 .f32)
  (A : Fin 256 → Fin 6912 → EReal) (G : Fin 6912 → EReal)
  (ha : ∀ i c, k0_pay13 v26 v37 v92 v128 v129 v130 v144 (ix2 i c) = A i c) (hg : ∀ c, g (ix2 0 c) = G c)

include ha hg in
theorem pay14_apply (i : Fin 256) (c : Fin 6912) :
    k0_pay14 v26 v37 v92 v128 v129 v130 v144 g (ix2 i c) = normed n6912 (A i) G c := by
  pointwise [k0_pay14]
  simp only [ha, hg, bits_one]
  rfl

include ha hg in
theorem pay19_apply (i : Fin 256) :
    k0_pay19 (k0_pay16 v26 v37 v92 v128 v129 v130 v144 g) (k0_pay17 v26 v37 v92 v128 v129 v130 v144 g) k0_pay18 (ix1 i)
      = scale n6912 (A i) G := by
  pointwise [k0_pay19, k0_pay16, k0_pay17, k0_pay18, k0_pay15]
  simp only [pay14_apply v26 v37 v92 v128 v129 v130 v144 g A G ha hg, bits_127, bits_bot, Ideal.absf_def]
  rw [fold_bot_eq_largest (by decide)]
  rfl

include ha hg in
theorem pay20_apply (i : Fin 256) (c : Fin 6912) :
    k0_pay20 (k0_pay14 v26 v37 v92 v128 v129 v130 v144 g) (k0_pay16 v26 v37 v92 v128 v129 v130 v144 g)
      (k0_pay17 v26 v37 v92 v128 v129 v130 v144 g) k0_pay18 (ix2 i c) = code n6912 (A i) G c := by
  pointwise [k0_pay20]
  rw [pay14_apply v26 v37 v92 v128 v129 v130 v144 g A G ha hg, pay19_apply v26 v37 v92 v128 v129 v130 v144 g A G ha hg,
    bits_127, bits_neg127]
  rfl

end

end Cert.ReferenceIdeal.Gen
-- ==== Proof.ResultsRef.lean ====
/- What the reference's run leaves in each result's block, entry by entry. -/
module

public import proofs.«01_k».proof.Proof.EvalRef
public import proofs.«01_k».proof.Proof.EvalRefDot
public import proofs.«01_k».proof.Proof.Layer

@[expose] public section

set_option maxRecDepth 16384

noncomputable section

namespace Cert.ReferenceIdeal.Gen

open Idealize.ShloMosaic Idealize.ShloMosaic.TcCoe Ffn

theorem zero2 : (![0, 0] : Fin 2 → Nat) = fun _ => 0 := funext fun a => by fin_cases a <;> rfl

/-- The blocks hold the arguments `a`. -/
structure Holds (a : Args) (x0 : Vec Ideal S256x2560 .bf16) (x1 : Vec Ideal S1x2560 .f32) (x2 : Vec Ideal S1x6912 .f32)
    (x3 x4 x5 : Vec Ideal S1x1 .f32) (x6 x7 : Vec Ideal S640x6912 .i8) (x8 : Vec Ideal S1728x2560 .i8) : Prop where
  x : ∀ i c, x0 (ix2 i c) = a.x i c
  gain1 : ∀ c, x1 (ix2 0 c) = a.gain1 c
  gain2 : ∀ c, x2 (ix2 0 c) = a.gain2 c
  sgate : x3 (ix2 0 0) = a.sgate
  sup : x4 (ix2 0 0) = a.sup
  sdown : x5 (ix2 0 0) = a.sdown
  gate : ∀ b c, x6 (ix2 b c) = a.gate b c
  up : ∀ b c, x7 (ix2 b c) = a.up b c
  down : ∀ b c, x8 (ix2 b c) = a.down b c

section
variable (a : Args) (x0 : Vec Ideal S256x2560 .bf16) (x1 : Vec Ideal S1x2560 .f32) (x2 : Vec Ideal S1x6912 .f32)
  (x3 x4 x5 : Vec Ideal S1x1 .f32) (x6 x7 : Vec Ideal S640x6912 .i8) (x8 : Vec Ideal S1728x2560 .i8)

theorem ldX : View.ld x0 r0_0 = x0 := View.ld_unit_zero zero2 _ _
theorem ldGain1 : View.ld x1 r0_1 = x1 := View.ld_unit_zero zero2 _ _
theorem ldGain2 : View.ld x2 r0_4 = x2 := View.ld_unit_zero zero2 _ _
theorem ldScale : View.ld x3 r0_3 = x3 := View.ld_unit_zero zero2 _ _
theorem ldWeights : View.ld x6 r0_2 = x6 := View.ld_unit_zero zero2 _ _
theorem ldDown : View.ld x8 r0_5 = x8 := View.ld_unit_zero zero2 _ _

variable (h : Holds a x0 x1 x2 x3 x4 x5 x6 x7 x8)
include h

/-- The scales of the normalised rows. -/
theorem pay29_apply (i : Fin 256) : (k0_pay29 x0 x1 x2 x3 x4 x5 x6 x7 x8) (ix1 i) = scale n2560 (a.x i) a.gain1 := by
  unfold k0_pay29
  rw [ldX, ldGain1]
  exact pay3_apply x0 x1 a.x a.gain1 h.x h.gain1 i

/-- The codes of the normalised rows, four to a byte of weights. -/
theorem pay30_apply (i : Fin 256) (b : Fin 640) (k : Fin 4) :
    (k0_pay30 x0 x1 x2 x3 x4 x5 x6 x7 x8) (ix3 i b k) = real (code n2560 (a.x i) a.gain1 ⟨4 * b.val + k.val, by omega⟩) := by
  unfold k0_pay30
  rw [ldX, ldGain1]
  exact pay5_apply x0 x1 a.x a.gain1 h.x h.gain1 i b k

/-- The gate projection. -/
theorem pay31_apply (i : Fin 256) (c : Fin 6912) :
    (k0_pay31 x0 x1 x2 x3 x4 x5 x6 x7 x8) (ix2 i c) = proj (a.x i) a.gain1 (fun b => a.gate b c) a.sgate := by
  unfold k0_pay31
  rw [ldWeights, ldScale, pay9_apply, pay7_apply i c _ x6 (code n2560 (a.x i) a.gain1) (fun b => a.gate b c)
    (fun b k => pay30_apply a x0 x1 x2 x3 x4 x5 x6 x7 x8 h i b k) (fun b => h.gate b c), pay29_apply a x0 x1 x2 x3 x4 x5 x6 x7 x8 h i, h.sgate]
  rfl

/-- The activation. -/
theorem acts_apply (i : Fin 256) (c : Fin 6912) :
    k0_pay13 (k0_pay29 x0 x1 x2 x3 x4 x5 x6 x7 x8) (k0_pay30 x0 x1 x2 x3 x4 x5 x6 x7 x8) (k0_pay31 x0 x1 x2 x3 x4 x5 x6 x7 x8) (k0_pay32 x0 x1 x2 x3 x4 x5 x6 x7 x8) (k0_pay33 x0 x1 x2 x3 x4 x5 x6 x7 x8) (k0_pay34 x0 x1 x2 x3 x4 x5 x6 x7 x8) x4 (ix2 i c) = a.acts i c := by
  unfold k0_pay32 k0_pay33 k0_pay34
  rw [ldWeights]
  refine (pay13_apply i c _ x7 (code n2560 (a.x i) a.gain1) (fun b => a.up b c)
    (fun b k => pay30_apply a x0 x1 x2 x3 x4 x5 x6 x7 x8 h i b k) (fun b => h.up b c) _ _ x4).trans ?_
  rw [pay31_apply a x0 x1 x2 x3 x4 x5 x6 x7 x8 h i c, pay29_apply a x0 x1 x2 x3 x4 x5 x6 x7 x8 h i, h.sup]
  rfl

/-- The scales of the normalised activation. -/
theorem pay39_apply (i : Fin 256) : (k0_pay39 x0 x1 x2 x3 x4 x5 x6 x7 x8) (ix1 i) = scale n6912 (a.acts i) a.gain2 := by
  unfold k0_pay39 k0_pay36 k0_pay37 k0_pay38
  rw [ldScale, ldGain2]
  exact pay19_apply _ _ _ _ _ _ x4 x2 a.acts a.gain2 (acts_apply a x0 x1 x2 x3 x4 x5 x6 x7 x8 h) h.gain2 i

/-- The codes of the normalised activation. -/
theorem codes2_apply (i : Fin 256) (c : Fin 6912) :
    k0_pay20 (k0_pay35 x0 x1 x2 x3 x4 x5 x6 x7 x8) (k0_pay36 x0 x1 x2 x3 x4 x5 x6 x7 x8) (k0_pay37 x0 x1 x2 x3 x4 x5 x6 x7 x8) (k0_pay38 x0 x1 x2 x3 x4 x5 x6 x7 x8) (ix2 i c) = a.codes2 i c := by
  unfold k0_pay35 k0_pay36 k0_pay37 k0_pay38
  rw [ldScale, ldGain2]
  exact pay20_apply _ _ _ _ _ _ x4 x2 a.acts a.gain2 (acts_apply a x0 x1 x2 x3 x4 x5 x6 x7 x8 h) h.gain2 i c

theorem out9_apply (i : Fin 256) (l : Fin 2560) : out0_9 x0 x1 x2 x3 x4 x5 x6 x7 x8 (ix2 i l) = a.y i l := by
  unfold out0_9
  rw [View.canon_unit_zero zero2, ldX, ldDown, ldScale, pay25_apply i l x0 _ _ _ _ _ x8 x5 (a.codes2 i) (fun b => a.down b l)
    (codes2_apply a x0 x1 x2 x3 x4 x5 x6 x7 x8 h i) (fun b => h.down b l), pay39_apply a x0 x1 x2 x3 x4 x5 x6 x7 x8 h i, h.x, h.sdown]
  rfl

theorem out10_apply (i : Fin 256) (l : Fin 6912) : out0_10 x0 x1 x2 x3 x4 x5 x6 x7 x8 (ix2 i l) = a.acts i l := by
  unfold out0_10
  rw [View.canon_unit_zero zero2, ldScale, pay26_apply]
  exact acts_apply a x0 x1 x2 x3 x4 x5 x6 x7 x8 h i l

theorem out11_apply (i : Fin 256) (l : Fin 2560) : out0_11 x0 x1 x2 x3 x4 x5 x6 x7 x8 (ix2 i l) = a.codes i l := by
  unfold out0_11
  rw [View.canon_unit_zero zero2, ldX, ldGain1]
  exact pay4_apply x0 x1 a.x a.gain1 h.x h.gain1 i l

theorem out12_apply (k : Fin 2) (l : Fin 128) : out0_12 x0 x1 x2 x3 x4 x5 x6 x7 x8 (ix2 k l) = a.scales k l := by
  unfold out0_12
  rw [View.canon_unit_zero zero2, pay27_apply]
  exact pay29_apply a x0 x1 x2 x3 x4 x5 x6 x7 x8 h _

theorem out13_apply (i : Fin 256) (l : Fin 6912) : out0_13 x0 x1 x2 x3 x4 x5 x6 x7 x8 (ix2 i l) = a.codes2 i l := by
  unfold out0_13
  rw [View.canon_unit_zero zero2]
  exact codes2_apply a x0 x1 x2 x3 x4 x5 x6 x7 x8 h i l

theorem out14_apply (k : Fin 2) (l : Fin 128) : out0_14 x0 x1 x2 x3 x4 x5 x6 x7 x8 (ix2 k l) = a.scales2 k l := by
  unfold out0_14
  rw [View.canon_unit_zero zero2, pay28_apply]
  exact pay39_apply a x0 x1 x2 x3 x4 x5 x6 x7 x8 h _

end

end Cert.ReferenceIdeal.Gen
-- ==== Proof.ArraysRef.lean ====
/- The reference's result arrays after its run, as functions of the argument arrays. -/
module

public import proofs.«01_k».proof.Proof.ResultsRef
public import Idealize.ShloMosaic.Lib.Pipeline.ValueKit
public import Idealize.ShloMosaic.Lib.Claim

@[expose] public section

set_option maxRecDepth 100000

noncomputable section

namespace Cert.ReferenceIdeal.Gen

open Idealize.ShloMosaic Idealize.ShloMosaic.TcCoe Idealize.ShloMosaic.Tactic Idealize.SL.Sem Ffn

/-! ## Each window's block is its whole array -/

theorem emb0 (t : Fin cfg0.N) (j : S256x2560.Idx) : ((cfg0.win 0).blk t).view.emb j = j := by
  funext a; apply Fin.ext
  match a with
  | ⟨0, _⟩ => show 0 * 256 + 1 * (j 0).val = (j 0).val; omega
  | ⟨1, _⟩ => show 0 * 2560 + 1 * (j 1).val = (j 1).val; omega

theorem emb1 (t : Fin cfg0.N) (j : S1x2560.Idx) : ((cfg0.win 1).blk t).view.emb j = j := by
  funext a; apply Fin.ext
  match a with
  | ⟨0, _⟩ => show 0 * 1 + 1 * (j 0).val = (j 0).val; omega
  | ⟨1, _⟩ => show 0 * 2560 + 1 * (j 1).val = (j 1).val; omega

theorem emb2 (t : Fin cfg0.N) (j : S1x6912.Idx) : ((cfg0.win 2).blk t).view.emb j = j := by
  funext a; apply Fin.ext
  match a with
  | ⟨0, _⟩ => show 0 * 1 + 1 * (j 0).val = (j 0).val; omega
  | ⟨1, _⟩ => show 0 * 6912 + 1 * (j 1).val = (j 1).val; omega

theorem emb3 (t : Fin cfg0.N) (j : S1x1.Idx) : ((cfg0.win 3).blk t).view.emb j = j := by
  funext a; apply Fin.ext
  match a with
  | ⟨0, _⟩ => show 0 * 1 + 1 * (j 0).val = (j 0).val; omega
  | ⟨1, _⟩ => show 0 * 1 + 1 * (j 1).val = (j 1).val; omega

theorem emb4 (t : Fin cfg0.N) (j : S1x1.Idx) : ((cfg0.win 4).blk t).view.emb j = j := by
  funext a; apply Fin.ext
  match a with
  | ⟨0, _⟩ => show 0 * 1 + 1 * (j 0).val = (j 0).val; omega
  | ⟨1, _⟩ => show 0 * 1 + 1 * (j 1).val = (j 1).val; omega

theorem emb5 (t : Fin cfg0.N) (j : S1x1.Idx) : ((cfg0.win 5).blk t).view.emb j = j := by
  funext a; apply Fin.ext
  match a with
  | ⟨0, _⟩ => show 0 * 1 + 1 * (j 0).val = (j 0).val; omega
  | ⟨1, _⟩ => show 0 * 1 + 1 * (j 1).val = (j 1).val; omega

theorem emb6 (t : Fin cfg0.N) (j : S640x6912.Idx) : ((cfg0.win 6).blk t).view.emb j = j := by
  funext a; apply Fin.ext
  match a with
  | ⟨0, _⟩ => show 0 * 640 + 1 * (j 0).val = (j 0).val; omega
  | ⟨1, _⟩ => show 0 * 6912 + 1 * (j 1).val = (j 1).val; omega

theorem emb7 (t : Fin cfg0.N) (j : S640x6912.Idx) : ((cfg0.win 7).blk t).view.emb j = j := by
  funext a; apply Fin.ext
  match a with
  | ⟨0, _⟩ => show 0 * 640 + 1 * (j 0).val = (j 0).val; omega
  | ⟨1, _⟩ => show 0 * 6912 + 1 * (j 1).val = (j 1).val; omega

theorem emb8 (t : Fin cfg0.N) (j : S1728x2560.Idx) : ((cfg0.win 8).blk t).view.emb j = j := by
  funext a; apply Fin.ext
  match a with
  | ⟨0, _⟩ => show 0 * 1728 + 1 * (j 0).val = (j 0).val; omega
  | ⟨1, _⟩ => show 0 * 2560 + 1 * (j 1).val = (j 1).val; omega

theorem emb9 (t : Fin cfg0.N) (j : S256x2560.Idx) : ((cfg0.win 9).blk t).view.emb j = j := by
  funext a; apply Fin.ext
  match a with
  | ⟨0, _⟩ => show 0 * 256 + 1 * (j 0).val = (j 0).val; omega
  | ⟨1, _⟩ => show 0 * 2560 + 1 * (j 1).val = (j 1).val; omega

theorem emb10 (t : Fin cfg0.N) (j : S256x6912.Idx) : ((cfg0.win 10).blk t).view.emb j = j := by
  funext a; apply Fin.ext
  match a with
  | ⟨0, _⟩ => show 0 * 256 + 1 * (j 0).val = (j 0).val; omega
  | ⟨1, _⟩ => show 0 * 6912 + 1 * (j 1).val = (j 1).val; omega

theorem emb11 (t : Fin cfg0.N) (j : S256x2560.Idx) : ((cfg0.win 11).blk t).view.emb j = j := by
  funext a; apply Fin.ext
  match a with
  | ⟨0, _⟩ => show 0 * 256 + 1 * (j 0).val = (j 0).val; omega
  | ⟨1, _⟩ => show 0 * 2560 + 1 * (j 1).val = (j 1).val; omega

theorem emb12 (t : Fin cfg0.N) (j : S2x128.Idx) : ((cfg0.win 12).blk t).view.emb j = j := by
  funext a; apply Fin.ext
  match a with
  | ⟨0, _⟩ => show 0 * 2 + 1 * (j 0).val = (j 0).val; omega
  | ⟨1, _⟩ => show 0 * 128 + 1 * (j 1).val = (j 1).val; omega

theorem emb13 (t : Fin cfg0.N) (j : S256x6912.Idx) : ((cfg0.win 13).blk t).view.emb j = j := by
  funext a; apply Fin.ext
  match a with
  | ⟨0, _⟩ => show 0 * 256 + 1 * (j 0).val = (j 0).val; omega
  | ⟨1, _⟩ => show 0 * 6912 + 1 * (j 1).val = (j 1).val; omega

theorem emb14 (t : Fin cfg0.N) (j : S2x128.Idx) : ((cfg0.win 14).blk t).view.emb j = j := by
  funext a; apply Fin.ext
  match a with
  | ⟨0, _⟩ => show 0 * 2 + 1 * (j 0).val = (j 0).val; omega
  | ⟨1, _⟩ => show 0 * 128 + 1 * (j 1).val = (j 1).val; omega

variable (m : (ℓ : Loc nD τ sig) → Buf (Elt Ideal) ℓ) (c : Dev nD)

/-- The arguments as launched. -/
def argsOf : Args := Args.ofArrays (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8))

/-! ## What the blocks read -/

theorem iblk0_eq (t : Fin cfg0.N) : iblk m c 0 t = V m c main_v0 := by
  funext j; show V m c main_v0 (((cfg0.win 0).blk t).view.emb j) = V m c main_v0 j; rw [emb0]

theorem iblk1_eq (t : Fin cfg0.N) : iblk m c 1 t = V m c main_v1 := by
  funext j; show V m c main_v1 (((cfg0.win 1).blk t).view.emb j) = V m c main_v1 j; rw [emb1]

theorem iblk2_eq (t : Fin cfg0.N) : iblk m c 2 t = V m c main_v2 := by
  funext j; show V m c main_v2 (((cfg0.win 2).blk t).view.emb j) = V m c main_v2 j; rw [emb2]

theorem iblk3_eq (t : Fin cfg0.N) : iblk m c 3 t = V m c main_v3 := by
  funext j; show V m c main_v3 (((cfg0.win 3).blk t).view.emb j) = V m c main_v3 j; rw [emb3]

theorem iblk4_eq (t : Fin cfg0.N) : iblk m c 4 t = V m c main_v4 := by
  funext j; show V m c main_v4 (((cfg0.win 4).blk t).view.emb j) = V m c main_v4 j; rw [emb4]

theorem iblk5_eq (t : Fin cfg0.N) : iblk m c 5 t = V m c main_v5 := by
  funext j; show V m c main_v5 (((cfg0.win 5).blk t).view.emb j) = V m c main_v5 j; rw [emb5]

theorem iblk6_eq (t : Fin cfg0.N) : iblk m c 6 t = V m c main_arg2 := by
  funext j; show V m c main_arg2 (((cfg0.win 6).blk t).view.emb j) = V m c main_arg2 j; rw [emb6]

theorem iblk7_eq (t : Fin cfg0.N) : iblk m c 7 t = V m c main_arg4 := by
  funext j; show V m c main_arg4 (((cfg0.win 7).blk t).view.emb j) = V m c main_arg4 j; rw [emb7]

theorem iblk8_eq (t : Fin cfg0.N) : iblk m c 8 t = V m c main_arg7 := by
  funext j; show V m c main_arg7 (((cfg0.win 8).blk t).view.emb j) = V m c main_arg7 j; rw [emb8]

theorem entry_x (i : Fin 256) (l : Fin 2560) : V m c main_v0 (ix2 i l) = (argsOf m c).x i l := by
  entry_read
  show _ = m ((c : Thread nD τ).loc main_arg0) (ix3 ⟨i.val / 128, _⟩ ⟨i.val % 128, _⟩ l)
  pointwise

theorem entry_gain1 (l : Fin 2560) : V m c main_v1 (ix2 0 l) = (argsOf m c).gain1 l := by
  entry_read
  show _ = m ((c : Thread nD τ).loc main_arg1) (ix1 l)
  pointwise

theorem entry_gain2 (l : Fin 6912) : V m c main_v2 (ix2 0 l) = (argsOf m c).gain2 l := by
  entry_read
  show _ = m ((c : Thread nD τ).loc main_arg6) (ix1 l)
  pointwise

theorem entry_sgate : V m c main_v3 (ix2 0 0) = (argsOf m c).sgate := by
  entry_read
  show _ = m ((c : Thread nD τ).loc main_arg3) _
  pointwise

theorem entry_sup : V m c main_v4 (ix2 0 0) = (argsOf m c).sup := by
  entry_read
  show _ = m ((c : Thread nD τ).loc main_arg5) _
  pointwise

theorem entry_sdown : V m c main_v5 (ix2 0 0) = (argsOf m c).sdown := by
  entry_read
  show _ = m ((c : Thread nD τ).loc main_arg8) _
  pointwise

/-- The blocks hold the arguments. -/
theorem holds (t : Fin cfg0.N) : Holds (argsOf m c) (iblk m c 0 t) (iblk m c 1 t) (iblk m c 2 t) (iblk m c 3 t) (iblk m c 4 t)
    (iblk m c 5 t) (iblk m c 6 t) (iblk m c 7 t) (iblk m c 8 t) := by
  rw [iblk0_eq, iblk1_eq, iblk2_eq, iblk3_eq, iblk4_eq, iblk5_eq, iblk6_eq, iblk7_eq, iblk8_eq]
  exact ⟨entry_x m c, entry_gain1 m c, entry_gain2 m c, entry_sgate m c, entry_sup m c, entry_sdown m c,
    fun b l => congrFun (V_main_arg2 m c) (ix2 b l), fun b l => congrFun (V_main_arg4 m c) (ix2 b l),
    fun b l => congrFun (V_main_arg7 m c) (ix2 b l)⟩

/-! ## The result arrays -/

theorem cut9_eq (t : Fin cfg0.N) (X : Vec Ideal S256x2560 .bf16) :
    (cfg0.win 9).cut (grid0.coords t) X = ((cfg0.win 9).blk t).view.read (Elt Ideal) X := by
  funext j
  show X j = X (((cfg0.win 9).blk t).view.emb j)
  rw [emb9]

theorem block9_eq (t : Fin cfg0.N) : out0_9 (iblk m c 0 t) (iblk m c 1 t) (iblk m c 2 t) (iblk m c 3 t) (iblk m c 4 t) (iblk m c 5 t) (iblk m c 6 t) (iblk m c 7 t) (iblk m c 8 t)
    = fun y => (argsOf m c).y (y 0) (y 1) := funext fun y => by
  conv_lhs => rw [eq_ix2 y]
  exact out9_apply (argsOf m c) _ _ _ _ _ _ _ _ _ (holds m c t) (y 0) (y 1)

theorem final9 : (dats m 0 c).arrAt 9 cfg0.N = fun y : S256x2560.Idx => (argsOf m c).y (y 0) (y 1) :=
  (dats m 0 c).arrAt_eq_of_cover 9 (fun y : S256x2560.Idx => (argsOf m c).y (y 0) (y 1))
    (fun t _ => by rw [Value.flushed9, block9_eq m c t]; exact cut9_eq t _)
    fun i => ⟨(⟨0, by decide⟩ : Fin cfg0.N), flush0_9 _, by
      have h := ((cfg0.win 9).blk (⟨0, by decide⟩ : Fin cfg0.N)).view.emb_mem_set i; rwa [emb9] at h⟩

theorem cut10_eq (t : Fin cfg0.N) (X : Vec Ideal S256x6912 .bf16) :
    (cfg0.win 10).cut (grid0.coords t) X = ((cfg0.win 10).blk t).view.read (Elt Ideal) X := by
  funext j
  show X j = X (((cfg0.win 10).blk t).view.emb j)
  rw [emb10]

theorem block10_eq (t : Fin cfg0.N) : out0_10 (iblk m c 0 t) (iblk m c 1 t) (iblk m c 2 t) (iblk m c 3 t) (iblk m c 4 t) (iblk m c 5 t) (iblk m c 6 t) (iblk m c 7 t) (iblk m c 8 t)
    = fun y => (argsOf m c).acts (y 0) (y 1) := funext fun y => by
  conv_lhs => rw [eq_ix2 y]
  exact out10_apply (argsOf m c) _ _ _ _ _ _ _ _ _ (holds m c t) (y 0) (y 1)

theorem final10 : (dats m 0 c).arrAt 10 cfg0.N = fun y : S256x6912.Idx => (argsOf m c).acts (y 0) (y 1) :=
  (dats m 0 c).arrAt_eq_of_cover 10 (fun y : S256x6912.Idx => (argsOf m c).acts (y 0) (y 1))
    (fun t _ => by rw [Value.flushed10, block10_eq m c t]; exact cut10_eq t _)
    fun i => ⟨(⟨0, by decide⟩ : Fin cfg0.N), flush0_10 _, by
      have h := ((cfg0.win 10).blk (⟨0, by decide⟩ : Fin cfg0.N)).view.emb_mem_set i; rwa [emb10] at h⟩

theorem cut11_eq (t : Fin cfg0.N) (X : Vec Ideal S256x2560 .i8) :
    (cfg0.win 11).cut (grid0.coords t) X = ((cfg0.win 11).blk t).view.read (Elt Ideal) X := by
  funext j
  show X j = X (((cfg0.win 11).blk t).view.emb j)
  rw [emb11]

theorem block11_eq (t : Fin cfg0.N) : out0_11 (iblk m c 0 t) (iblk m c 1 t) (iblk m c 2 t) (iblk m c 3 t) (iblk m c 4 t) (iblk m c 5 t) (iblk m c 6 t) (iblk m c 7 t) (iblk m c 8 t)
    = fun y => (argsOf m c).codes (y 0) (y 1) := funext fun y => by
  conv_lhs => rw [eq_ix2 y]
  exact out11_apply (argsOf m c) _ _ _ _ _ _ _ _ _ (holds m c t) (y 0) (y 1)

theorem final11 : (dats m 0 c).arrAt 11 cfg0.N = fun y : S256x2560.Idx => (argsOf m c).codes (y 0) (y 1) :=
  (dats m 0 c).arrAt_eq_of_cover 11 (fun y : S256x2560.Idx => (argsOf m c).codes (y 0) (y 1))
    (fun t _ => by rw [Value.flushed11, block11_eq m c t]; exact cut11_eq t _)
    fun i => ⟨(⟨0, by decide⟩ : Fin cfg0.N), flush0_11 _, by
      have h := ((cfg0.win 11).blk (⟨0, by decide⟩ : Fin cfg0.N)).view.emb_mem_set i; rwa [emb11] at h⟩

theorem cut12_eq (t : Fin cfg0.N) (X : Vec Ideal S2x128 .f32) :
    (cfg0.win 12).cut (grid0.coords t) X = ((cfg0.win 12).blk t).view.read (Elt Ideal) X := by
  funext j
  show X j = X (((cfg0.win 12).blk t).view.emb j)
  rw [emb12]

theorem block12_eq (t : Fin cfg0.N) : out0_12 (iblk m c 0 t) (iblk m c 1 t) (iblk m c 2 t) (iblk m c 3 t) (iblk m c 4 t) (iblk m c 5 t) (iblk m c 6 t) (iblk m c 7 t) (iblk m c 8 t)
    = fun y => (argsOf m c).scales (y 0) (y 1) := funext fun y => by
  conv_lhs => rw [eq_ix2 y]
  exact out12_apply (argsOf m c) _ _ _ _ _ _ _ _ _ (holds m c t) (y 0) (y 1)

theorem final12 : (dats m 0 c).arrAt 12 cfg0.N = fun y : S2x128.Idx => (argsOf m c).scales (y 0) (y 1) :=
  (dats m 0 c).arrAt_eq_of_cover 12 (fun y : S2x128.Idx => (argsOf m c).scales (y 0) (y 1))
    (fun t _ => by rw [Value.flushed12, block12_eq m c t]; exact cut12_eq t _)
    fun i => ⟨(⟨0, by decide⟩ : Fin cfg0.N), flush0_12 _, by
      have h := ((cfg0.win 12).blk (⟨0, by decide⟩ : Fin cfg0.N)).view.emb_mem_set i; rwa [emb12] at h⟩

theorem cut13_eq (t : Fin cfg0.N) (X : Vec Ideal S256x6912 .i8) :
    (cfg0.win 13).cut (grid0.coords t) X = ((cfg0.win 13).blk t).view.read (Elt Ideal) X := by
  funext j
  show X j = X (((cfg0.win 13).blk t).view.emb j)
  rw [emb13]

theorem block13_eq (t : Fin cfg0.N) : out0_13 (iblk m c 0 t) (iblk m c 1 t) (iblk m c 2 t) (iblk m c 3 t) (iblk m c 4 t) (iblk m c 5 t) (iblk m c 6 t) (iblk m c 7 t) (iblk m c 8 t)
    = fun y => (argsOf m c).codes2 (y 0) (y 1) := funext fun y => by
  conv_lhs => rw [eq_ix2 y]
  exact out13_apply (argsOf m c) _ _ _ _ _ _ _ _ _ (holds m c t) (y 0) (y 1)

theorem final13 : (dats m 0 c).arrAt 13 cfg0.N = fun y : S256x6912.Idx => (argsOf m c).codes2 (y 0) (y 1) :=
  (dats m 0 c).arrAt_eq_of_cover 13 (fun y : S256x6912.Idx => (argsOf m c).codes2 (y 0) (y 1))
    (fun t _ => by rw [Value.flushed13, block13_eq m c t]; exact cut13_eq t _)
    fun i => ⟨(⟨0, by decide⟩ : Fin cfg0.N), flush0_13 _, by
      have h := ((cfg0.win 13).blk (⟨0, by decide⟩ : Fin cfg0.N)).view.emb_mem_set i; rwa [emb13] at h⟩

theorem cut14_eq (t : Fin cfg0.N) (X : Vec Ideal S2x128 .f32) :
    (cfg0.win 14).cut (grid0.coords t) X = ((cfg0.win 14).blk t).view.read (Elt Ideal) X := by
  funext j
  show X j = X (((cfg0.win 14).blk t).view.emb j)
  rw [emb14]

theorem block14_eq (t : Fin cfg0.N) : out0_14 (iblk m c 0 t) (iblk m c 1 t) (iblk m c 2 t) (iblk m c 3 t) (iblk m c 4 t) (iblk m c 5 t) (iblk m c 6 t) (iblk m c 7 t) (iblk m c 8 t)
    = fun y => (argsOf m c).scales2 (y 0) (y 1) := funext fun y => by
  conv_lhs => rw [eq_ix2 y]
  exact out14_apply (argsOf m c) _ _ _ _ _ _ _ _ _ (holds m c t) (y 0) (y 1)

theorem final14 : (dats m 0 c).arrAt 14 cfg0.N = fun y : S2x128.Idx => (argsOf m c).scales2 (y 0) (y 1) :=
  (dats m 0 c).arrAt_eq_of_cover 14 (fun y : S2x128.Idx => (argsOf m c).scales2 (y 0) (y 1))
    (fun t _ => by rw [Value.flushed14, block14_eq m c t]; exact cut14_eq t _)
    fun i => ⟨(⟨0, by decide⟩ : Fin cfg0.N), flush0_14 _, by
      have h := ((cfg0.win 14).blk (⟨0, by decide⟩ : Fin cfg0.N)).view.emb_mem_set i; rwa [emb14] at h⟩

end Cert.ReferenceIdeal.Gen
-- ==== Proof.Weights.lean ====
/- The precondition, read: no two-bit field of a packed weight is 3. -/
module

public import proofs.«01_k».proof.Defs
public import proofs.«01_k».proof.Proof.ArraysI
public import proofs.«01_k».proof.Proof.Gen.Pre_ternary_weights

@[expose] public section

set_option maxRecDepth 100000

noncomputable section

namespace Cert.Proof

open Idealize.ShloMosaic Idealize.SL.Sem Ffn

/-- The test of the precondition at one packed byte. -/
theorem ternary_of (b : BitVec 8)
    (h : IntOp.cmpi .eq (IntOp.andi (IntOp.andi (b.setWidth 32) (IntOp.shrsi .host (b.setWidth 32) 1#32)) 85#32) 0#32 = 1#1) :
    Ternary b := IntOp.cmpi_eq.mp h

/-- Under the precondition the kernel's packed weights are ternary. -/
theorem allTernary (m : (ℓ : Loc Cert.KernelIdeal.nD Cert.KernelIdeal.τ Cert.KernelIdeal.sig) → Buf (Elt Ideal) ℓ)
    (h : Cert.Pre_KernelIdeal_ternary_weights m) (c : Dev Cert.KernelIdeal.nD) : (Cert.KernelIdeal.Gen.argsOf m c).AllTernary :=
  ⟨fun b l => ternary_of _ (congrFun (h c).1 (ix2 b l)), fun b l => ternary_of _ (congrFun (h c).2.1 (ix2 b l)),
    fun b l => ternary_of _ (congrFun (h c).2.2 (ix2 b l))⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.FrameK
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.FrameI
public import proofs.«01_k».proof.Proof.ValueI
public import proofs.«01_k».proof.Proof.Results
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.EvalRefDot
public import proofs.«01_k».proof.Proof.ArraysI
public import proofs.«01_k».proof.Proof.ArraysRef
public import proofs.«01_k».proof.Proof.Gen.Pre_ternary_weights
public import proofs.«01_k».proof.Proof.Weights
public import Idealize.ShloMosaic.Adequacy
public import Idealize.ShloMosaic.Init

@[expose] public section

noncomputable section

namespace Cert.Proof

open Idealize.ShloMosaic Idealize.SL.Sem Cert.Kernel

/-- The two programs are launched on the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Gen.argsOf m' c = Cert.KernelIdeal.Gen.argsOf m c := by
  obtain ⟨h0, h1, h2, h3, h4, h5, h6, h7, h8⟩ := h
  unfold Cert.ReferenceIdeal.Gen.argsOf Cert.KernelIdeal.Gen.argsOf
  exact (congr (congr (congr (congr (congr (congr (congr (congr (congrArg Ffn.Args.ofArrays h0) h1) h2) h3) h4) h5) h6) h7) h8)

/-- Both programs leave the layer's results in all six result arrays. -/
theorem algebraic : Cert.algebraic_KernelIdeal_ReferenceIdeal_pre_ternary_weights := by
  intro m g m' g' hpre hargs
  refine ⟨fun c => fun y : Cert.KernelIdeal.S256x2560.Idx => (Cert.KernelIdeal.Gen.argsOf m c).y (y 0) (y 1),
    fun c => fun y : Cert.KernelIdeal.S256x6912.Idx => (Cert.KernelIdeal.Gen.argsOf m c).acts (y 0) (y 1),
    fun c => fun y : Cert.KernelIdeal.S256x2560.Idx => (Cert.KernelIdeal.Gen.argsOf m c).codes (y 0) (y 1),
    fun c => fun y : Cert.KernelIdeal.S2x128.Idx => (Cert.KernelIdeal.Gen.argsOf m c).scales (y 0) (y 1),
    fun c => fun y : Cert.KernelIdeal.S256x6912.Idx => (Cert.KernelIdeal.Gen.argsOf m c).codes2 (y 0) (y 1),
    fun c => fun y : Cert.KernelIdeal.S2x128.Idx => (Cert.KernelIdeal.Gen.argsOf m c).scales2 (y 0) (y 1), ?_, ?_⟩
  · refine (θ_run Cert.KernelIdeal.defs _ _).mono (fun r h c => ?_) (Cert.KernelIdeal.Value.run_blocks m g)
    obtain ⟨h0, h1, h2, h3, h4, h5, hk⟩ := h c
    exact ⟨h0.trans (Cert.KernelIdeal.Gen.final4 m c (allTernary m hpre c)), h1.trans (Cert.KernelIdeal.Gen.final5 m c (allTernary m hpre c)), h2.trans (Cert.KernelIdeal.Gen.final6 m c), h3.trans (Cert.KernelIdeal.Gen.final7 m c), h4.trans (Cert.KernelIdeal.Gen.final8 m c (allTernary m hpre c)), h5.trans (Cert.KernelIdeal.Gen.final9 m c (allTernary m hpre c)), hk⟩
  · refine (θ_run Cert.ReferenceIdeal.defs _ _).mono (fun r h c => ?_) (Cert.ReferenceIdeal.Value.run_blocks m' g')
    obtain ⟨h0, h1, h2, h3, h4, h5, hk⟩ := h c
    have e := args_eq m m' c (hargs c)
    exact ⟨h0.trans ((Cert.ReferenceIdeal.Gen.final9 m' c).trans (by rw [e])), h1.trans ((Cert.ReferenceIdeal.Gen.final10 m' c).trans (by rw [e])), h2.trans ((Cert.ReferenceIdeal.Gen.final11 m' c).trans (by rw [e])), h3.trans ((Cert.ReferenceIdeal.Gen.final12 m' c).trans (by rw [e])), h4.trans ((Cert.ReferenceIdeal.Gen.final13 m' c).trans (by rw [e])), h5.trans ((Cert.ReferenceIdeal.Gen.final14 m' c).trans (by rw [e])), hk⟩

theorem claim : Cert.Claim := ⟨Cert.Kernel.Gen.facts, Cert.KernelIdeal.Gen.facts, Cert.ReferenceIdeal.Gen.facts, Cert.Pre_ternary_weights.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, trivial, algebraic⟩

end Cert.Proof

end
